-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x1536 : Shape := ⟨3, ![2, 1024, 1536]⟩
abbrev S2x1024x8960 : Shape := ⟨3, ![2, 1024, 8960]⟩
abbrev S2x1024x70 : Shape := ⟨3, ![2, 1024, 70]⟩
abbrev S8960x1536 : Shape := ⟨2, ![8960, 1536]⟩
abbrev S70x12 : Shape := ⟨2, ![70, 12]⟩
abbrev S1536 : Shape := ⟨1, ![1536]⟩
abbrev S2 : Shape := ⟨1, ![2]⟩
abbrev S1x1536 : Shape := ⟨2, ![1, 1536]⟩
abbrev S2x1536 : Shape := ⟨2, ![2, 1536]⟩
abbrev S2x1 : Shape := ⟨2, ![2, 1]⟩
abbrev S2x384 : Shape := ⟨2, ![2, 384]⟩
abbrev S1x256x1536 : Shape := ⟨3, ![1, 256, 1536]⟩
abbrev S1x256x8960 : Shape := ⟨3, ![1, 256, 8960]⟩
abbrev S1x256x70 : Shape := ⟨3, ![1, 256, 70]⟩
abbrev S256x8960 : Shape := ⟨2, ![256, 8960]⟩
abbrev S8x1536 : Shape := ⟨2, ![8, 1536]⟩
abbrev S1x1 : Shape := ⟨2, ![1, 1]⟩
abbrev S128x128 : Shape := ⟨2, ![128, 128]⟩
abbrev S1x256x1 : Shape := ⟨3, ![1, 256, 1]⟩
abbrev S256x1 : Shape := ⟨2, ![256, 1]⟩
abbrev S1x256x128 : Shape := ⟨3, ![1, 256, 128]⟩
abbrev S256x128 : Shape := ⟨2, ![256, 128]⟩
abbrev S256x1536 : Shape := ⟨2, ![256, 1536]⟩
abbrev S256 : Shape := ⟨1, ![256]⟩
abbrev S1 : Shape := ⟨1, ![1]⟩
abbrev S8x1 : Shape := ⟨2, ![8, 1]⟩

abbrev nBuf : Space → Nat
  | .hbm => 18
  | .vmem => 20
  | .smem => 2
  | _ => 0

abbrev bufTy : (tb : Table) → Fin (tcTables nBuf tb) → BufTy
  | .hbm, ⟨0, _⟩ => ⟨S2x1024x1536, .bf16⟩
  | .hbm, ⟨1, _⟩ => ⟨S2x1024x8960, .fp8e4m3⟩
  | .hbm, ⟨2, _⟩ => ⟨S2x1024x70, .f32⟩
  | .hbm, ⟨3, _⟩ => ⟨S8960x1536, .fp8e4m3⟩
  | .hbm, ⟨4, _⟩ => ⟨S70x12, .f32⟩
  | .hbm, ⟨5, _⟩ => ⟨S1536, .f32⟩
  | .hbm, ⟨6, _⟩ => ⟨S1536, .f32⟩
  | .hbm, ⟨7, _⟩ => ⟨S1536, .f32⟩
  | .hbm, ⟨8, _⟩ => ⟨S2, .i32⟩
  | .hbm, ⟨9, _⟩ => ⟨S1x1536, .f32⟩
  | .hbm, ⟨10, _⟩ => ⟨S1x1536, .f32⟩
  | .hbm, ⟨11, _⟩ => ⟨S1x1536, .f32⟩
  | .hbm, ⟨12, _⟩ => ⟨S2x1024x1536, .f32⟩
  | .hbm, ⟨13, _⟩ => ⟨S2x1536, .f32⟩
  | .hbm, ⟨14, _⟩ => ⟨S2x1536, .i8⟩
  | .hbm, ⟨15, _⟩ => ⟨S2x1, .f32⟩
  | .hbm, ⟨16, _⟩ => ⟨S2x384, .i8⟩
  | .hbm, ⟨17, _⟩ => ⟨S2x1, .f32⟩
  | .local _ .vmem, ⟨0, _⟩ => ⟨S1x256x1536, .bf16⟩
  | .local _ .vmem, ⟨1, _⟩ => ⟨S1x256x1536, .bf16⟩
  | .local _ .vmem, ⟨2, _⟩ => ⟨S1x256x8960, .fp8e4m3⟩
  | .local _ .vmem, ⟨3, _⟩ => ⟨S1x256x8960, .fp8e4m3⟩
  | .local _ .vmem, ⟨4, _⟩ => ⟨S1x256x70, .f32⟩
  | .local _ .vmem, ⟨5, _⟩ => ⟨S1x256x70, .f32⟩
  | .local _ .vmem, ⟨6, _⟩ => ⟨S8960x1536, .fp8e4m3⟩
  | .local _ .vmem, ⟨7, _⟩ => ⟨S1x1536, .f32⟩
  | .local _ .vmem, ⟨8, _⟩ => ⟨S1x1536, .f32⟩
  | .local _ .vmem, ⟨9, _⟩ => ⟨S1x1536, .f32⟩
  | .local _ .vmem, ⟨10, _⟩ => ⟨S1x256x1536, .f32⟩
  | .local _ .vmem, ⟨11, _⟩ => ⟨S1x256x1536, .f32⟩
  | .local _ .vmem, ⟨12, _⟩ => ⟨S2x1536, .f32⟩
  | .local _ .vmem, ⟨13, _⟩ => ⟨S2x1536, .i8⟩
  | .local _ .vmem, ⟨14, _⟩ => ⟨S2x1, .f32⟩
  | .local _ .vmem, ⟨15, _⟩ => ⟨S2x384, .i8⟩
  | .local _ .vmem, ⟨16, _⟩ => ⟨S2x1, .f32⟩
  | .local _ .vmem, ⟨17, _⟩ => ⟨S8960x1536, .bf16⟩
  | .local _ .vmem, ⟨18, _⟩ => ⟨S256x8960, .bf16⟩
  | .local _ .vmem, ⟨19, _⟩ => ⟨S8x1536, .f32⟩
  | .local _ .smem, ⟨0, _⟩ => ⟨S2, .i32⟩
  | .local _ .smem, ⟨1, _⟩ => ⟨S70x12, .f32⟩
  | _, _ => ⟨S2x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev main_v3_5 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_stg0_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18

abbrev nD : Nat := 1
abbrev τ : Topo := Topo.v7x

variable {F : FTy → Type} [FloatOps F]

abbrev grid0 : Pipeline.Grid := ⟨2, ![2, 4], ![false, false]⟩

def k0_off1 (i : grid0.Coords) : Fin 1 → Nat :=
  let arg0 : BitVec 32 := BitVec.ofNat 32 (i 0).val
  let v814 : Index := Scalar.indexCast arg0
  ![v814.toNat]
def k0_cond2 (i : grid0.Coords) : BitVec 1 :=
  let arg0 : BitVec 32 := BitVec.ofNat 32 (i 0).val
  let c1_i32 : BitVec 32 := 1#32
  let v841 : BitVec 1 := Scalar.cmpi .eq arg0 c1_i32
  let arg1 : BitVec 32 := BitVec.ofNat 32 (i 1).val
  let c3_i32 : BitVec 32 := 3#32
  let v842 : BitVec 1 := Scalar.cmpi .eq arg1 c3_i32
  let v843 : BitVec 1 := Scalar.andi v841 v842
  let v844 : BitVec 32 := Scalar.extui v843
  let c0_i32_451 : BitVec 32 := 0#32
  let v845 : BitVec 1 := Scalar.cmpi .ne v844 c0_i32_451
  v845

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x8960 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x70 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8960x1536 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S70x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S2x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2x1536 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2x384 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== ReferenceIdeal.lean ====
abbrev S2x1024x1536 : Shape := ⟨3, ![2, 1024, 1536]⟩
abbrev S2x1024x8960 : Shape := ⟨3, ![2, 1024, 8960]⟩
abbrev S2x1024x70 : Shape := ⟨3, ![2, 1024, 70]⟩
abbrev S8960x1536 : Shape := ⟨2, ![8960, 1536]⟩
abbrev S70x12 : Shape := ⟨2, ![70, 12]⟩
abbrev S1536 : Shape := ⟨1, ![1536]⟩
abbrev S2 : Shape := ⟨1, ![2]⟩
abbrev S2x1536 : Shape := ⟨2, ![2, 1536]⟩
abbrev S2x1 : Shape := ⟨2, ![2, 1]⟩
abbrev S2x384 : Shape := ⟨2, ![2, 384]⟩
abbrev S2x1024x70x128 : Shape := ⟨4, ![2, 1024, 70, 128]⟩
abbrev S2x1024x70x1 : Shape := ⟨4, ![2, 1024, 70, 1]⟩
abbrev S70x128x12x128 : Shape := ⟨4, ![70, 128, 12, 128]⟩
abbrev S70x1x12x1 : Shape := ⟨4, ![70, 1, 12, 1]⟩
abbrev S1x1x1536 : Shape := ⟨3, ![1, 1, 1536]⟩
abbrev S2x1024 : Shape := ⟨2, ![2, 1024]⟩
abbrev S2x1024x1 : Shape := ⟨3, ![2, 1024, 1]⟩
abbrev S1x1024 : Shape := ⟨2, ![1, 1024]⟩
abbrev S1024 : Shape := ⟨1, ![1024]⟩

abbrev nBuf : Space → Nat
  | .hbm => 15
  | .vmem => 15
  | .smem => 0
  | _ => 0

abbrev bufTy : (tb : Table) → Fin (tcTables nBuf tb) → BufTy
  | .hbm, ⟨0, _⟩ => ⟨S2x1024x1536, .bf16⟩
  | .hbm, ⟨1, _⟩ => ⟨S2x1024x8960, .fp8e4m3⟩
  | .hbm, ⟨2, _⟩ => ⟨S2x1024x70, .f32⟩
  | .hbm, ⟨3, _⟩ => ⟨S8960x1536, .fp8e4m3⟩
  | .hbm, ⟨4, _⟩ => ⟨S70x12, .f32⟩
  | .hbm, ⟨5, _⟩ => ⟨S1536, .f32⟩
  | .hbm, ⟨6, _⟩ => ⟨S1536, .f32⟩
  | .hbm, ⟨7, _⟩ => ⟨S1536, .f32⟩
  | .hbm, ⟨8, _⟩ => ⟨S2, .i32⟩
  | .hbm, ⟨9, _⟩ => ⟨S2x1024x1536, .f32⟩
  | .hbm, ⟨10, _⟩ => ⟨S2x1536, .f32⟩
  | .hbm, ⟨11, _⟩ => ⟨S2x1536, .i8⟩
  | .hbm, ⟨12, _⟩ => ⟨S2x1, .f32⟩
  | .hbm, ⟨13, _⟩ => ⟨S2x384, .i8⟩
  | .hbm, ⟨14, _⟩ => ⟨S2x1, .f32⟩
  | .local _ .vmem, ⟨0, _⟩ => ⟨S2x1024x1536, .bf16⟩
  | .local _ .vmem, ⟨1, _⟩ => ⟨S2x1024x8960, .fp8e4m3⟩
  | .local _ .vmem, ⟨2, _⟩ => ⟨S2x1024x70, .f32⟩
  | .local _ .vmem, ⟨3, _⟩ => ⟨S8960x1536, .fp8e4m3⟩
  | .local _ .vmem, ⟨4, _⟩ => ⟨S70x12, .f32⟩
  | .local _ .vmem, ⟨5, _⟩ => ⟨S1536, .f32⟩
  | .local _ .vmem, ⟨6, _⟩ => ⟨S1536, .f32⟩
  | .local _ .vmem, ⟨7, _⟩ => ⟨S1536, .f32⟩
  | .local _ .vmem, ⟨8, _⟩ => ⟨S2, .i32⟩
  | .local _ .vmem, ⟨9, _⟩ => ⟨S2x1024x1536, .f32⟩
  | .local _ .vmem, ⟨10, _⟩ => ⟨S2x1536, .f32⟩
  | .local _ .vmem, ⟨11, _⟩ => ⟨S2x1536, .i8⟩
  | .local _ .vmem, ⟨12, _⟩ => ⟨S2x1, .f32⟩
  | .local _ .vmem, ⟨13, _⟩ => ⟨S2x384, .i8⟩
  | .local _ .vmem, ⟨14, _⟩ => ⟨S2x1, .f32⟩
  | _, _ => ⟨S2x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S2x1024x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x8960 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x70 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8960x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S70x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1536 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x384 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Spec.lean ====
/-
  The mathematics of the layer over the extended reals, row by row, with no program in it. Both the kernel and the reference are
  shown to compute these functions (`Ref.lean` for the reference, `Points.lean` and `Finish.lean` for the kernel).
-/
module

public import Idealize.ShloMosaic.Lib.Pointwise

@[expose] public section

noncomputable section

namespace Cert.Spec

open Idealize.ShloMosaic

/-- The element of a scale vector that block `k / 128` of the contraction uses. -/
abbrev blk (k : Fin 8960) : Fin 70 := ⟨k / 128, by omega⟩

/-- The element of a scale vector that block `n / 128` of the output columns uses. -/
abbrev cblk (n : Fin 1536) : Fin 12 := ⟨n / 128, by omega⟩

/-- One weight after its block scale. -/
def wd (w : Fin 8960 → Fin 1536 → EReal) (ws : Fin 70 → Fin 12 → EReal) (k : Fin 8960) (n : Fin 1536) : EReal :=
  w k n * ws (blk k) (cblk n)

/-- One activation of a row after its block scale. -/
def hd (h : Fin 8960 → EReal) (hs : Fin 70 → EReal) (k : Fin 8960) : EReal := h k * hs (blk k)

/-- A row before the layer norm: the row of `x`, plus the projection of the scaled activations, plus the bias. -/
def pre (x : Fin 1536 → EReal) (a : Fin 8960 → EReal) (W : Fin 8960 → Fin 1536 → EReal) (bias : Fin 1536 → EReal)
    (n : Fin 1536) : EReal :=
  x n + ∑ k, a k * W k n + bias n

/-- A row less its mean. -/
def cen (u : Fin 1536 → EReal) (n : Fin 1536) : EReal :=
  u n - Ideal.div (∑ k, u k) (Ideal.ofBits .f32 0x44C00000#32)

/-- The layer norm of a row. -/
def norm (u g b : Fin 1536 → EReal) (n : Fin 1536) : EReal :=
  cen u n * Ideal.rsqrt (Ideal.div (∑ k, cen u k * cen u k) (Ideal.ofBits .f32 0x44C00000#32) + Ideal.ofBits .f32 0x3727C5AC#32) * g n + b n

/-- A value of row `l`, or zero where the row is past the sequence's length. -/
def masked (l : ℕ) (len : BitVec 32) (y : EReal) : EReal :=
  Scalar.select (IntOp.cmpi .slt (BitVec.ofNat 32 l) len) y 0

/-- A sum over the rows divided by the sequence's length. -/
def pooled (s : EReal) (len : BitVec 32) : EReal := Ideal.div s (FloatOps.sitofp (F := Ideal) .f32 len)

/-- A vector divided by its length. -/
def unit {N : ℕ} (u : Fin N → EReal) (n : Fin N) : EReal :=
  Ideal.div (u n) (max (Ideal.sqrt (∑ k, u k * u k)) (Ideal.ofBits .f32 0x2B8CBCCC#32))

/-- The greatest absolute value of a vector. -/
def amax {N : ℕ} (u : Fin N → EReal) : EReal :=
  Finset.univ.fold max (Ideal.ofBits .f32 0xFF800000#32) fun k => FloatOps.absf (F := Ideal) (φ := .f32) (u k)

/-- The quantisation scale of a vector. -/
def scale {N : ℕ} (u : Fin N → EReal) : EReal :=
  if amax u = 0 then 1 else Ideal.div (amax u) (Ideal.ofBits .f32 0x42FE0000#32)

/-- The quantised word of one element of a vector. -/
def code {N : ℕ} (u : Fin N → EReal) (n : Fin N) : BitVec 8 :=
  FloatOps.fptosi (F := Ideal) (φ := .f32) 8
    (min (Ideal.ofBits .f32 0x42FE0000#32)
      (max (Ideal.ofBits .f32 0xC2FE0000#32) (FloatOps.roundeven (F := Ideal) (φ := .f32) (Ideal.div (u n) (scale u)))))

/-- The first 384 elements of a vector. -/
abbrev head (u : Fin 1536 → EReal) (n : Fin 384) : EReal := u ⟨n, by omega⟩

end Cert.Spec

end
-- ==== Proof.Ref.lean ====
/-
  The reference, read index by index: each of its six results is the function of `Spec.lean`.
-/
module

public import proofs.«01_k».proof.Proof.Gen.ReferenceIdeal.Value
public import proofs.«01_k».proof.Proof.Spec
public import Idealize.ShloMosaic.Lib.Pointwise

@[expose] public section

set_option maxRecDepth 16384

noncomputable section

namespace Cert.ReferenceIdeal.Hand

open Cert.ReferenceIdeal Cert.ReferenceIdeal.Gen Idealize.ShloMosaic Idealize.ShloMosaic.TcCoe
open Cert.ReferenceIdeal.Value

variable (a0 : Vec Ideal S2x1024x1536 .bf16) (a1 : Vec Ideal S2x1024x8960 .fp8e4m3) (a2 : Vec Ideal S2x1024x70 .f32)
  (a3 : Vec Ideal S8960x1536 .fp8e4m3) (a4 : Vec Ideal S70x12 .f32) (a5 a6 a7 : Vec Ideal S1536 .f32) (a8 : Vec Ideal S2 .i32)

/-- Row `(b, l)` before the layer norm. -/
abbrev preRow (b : Fin 2) (l : Fin 1024) : Fin 1536 → EReal :=
  Spec.pre (fun n => a0 (ix3 b l n)) (Spec.hd (fun k => a1 (ix3 b l k)) (fun k => a2 (ix3 b l k)))
    (Spec.wd (fun k n => a3 (ix2 k n)) (fun k n => a4 (ix2 k n))) (fun n => a5 (ix1 n))

/-- The masked, normalised row `(b, l)`. -/
abbrev zRow (b : Fin 2) (l : Fin 1024) (n : Fin 1536) : EReal :=
  Spec.masked l (a8 (ix1 b)) (Spec.norm (preRow a0 a1 a2 a3 a4 a5 b l) (fun n => a6 (ix1 n)) (fun n => a7 (ix1 n)) n)

/-- The mean over the rows of sequence `b`. -/
abbrev mRow (b : Fin 2) (n : Fin 1536) : EReal :=
  Spec.pooled (∑ l : Fin 1024, zRow a0 a1 a2 a3 a4 a5 a6 a7 a8 b l n) (a8 (ix1 b))

/-- The centred rows. -/
theorem pay1_at (b : Fin 2) (l : Fin 1024) (n : Fin 1536) :
    k0_pay1 a0 a1 a2 a3 a4 a5 (ix3 b l n) = Spec.cen (preRow a0 a1 a2 a3 a4 a5 b l) n := by
  pointwise [k0_pay1, Spec.cen, Spec.pre, Spec.hd, Spec.wd]

/-- Their sums of squares. -/
theorem pay2_at (b : Fin 2) (l : Fin 1024) :
    k0_pay2 a0 a1 a2 a3 a4 a5 (ix3 b l 0)
      = ∑ k, Spec.cen (preRow a0 a1 a2 a3 a4 a5 b l) k * Spec.cen (preRow a0 a1 a2 a3 a4 a5 b l) k := by
  pointwise [k0_pay2]
  simp only [pay1_at]

/-- The masked, normalised rows. -/
theorem pay3_at (c : Ideal .f32) (hc : c = Scalar.ofBits .f32 0x44C00000#32) (b : Fin 2) (l : Fin 1024) (n : Fin 1536) :
    k0_pay3 a6 a7 a8 (k0_pay1 a0 a1 a2 a3 a4 a5) (k0_pay2 a0 a1 a2 a3 a4 a5) c (ix3 b l n)
      = zRow a0 a1 a2 a3 a4 a5 a6 a7 a8 b l n := by
  pointwise [k0_pay3]
  rw [pay1_at, pay2_at, hc]
  rfl

/-- The means over the rows. -/
theorem pay4_at (c : Ideal .f32) (hc : c = Scalar.ofBits .f32 0x44C00000#32) (b : Fin 2) (n : Fin 1536) :
    k0_pay4 a6 a7 a8 (k0_pay1 a0 a1 a2 a3 a4 a5) (k0_pay2 a0 a1 a2 a3 a4 a5) c (ix2 b n)
      = mRow a0 a1 a2 a3 a4 a5 a6 a7 a8 b n := by
  pointwise [k0_pay4]
  simp only [pay3_at a0 a1 a2 a3 a4 a5 a6 a7 a8 c hc]
  rfl

/-- The means, each divided by its length. -/
theorem pay5_at (c : Ideal .f32) (hc : c = Scalar.ofBits .f32 0x44C00000#32) (b : Fin 2) (n : Fin 1536) :
    k0_pay5 a6 a7 a8 (k0_pay1 a0 a1 a2 a3 a4 a5) (k0_pay2 a0 a1 a2 a3 a4 a5) c (ix2 b n)
      = Spec.unit (mRow a0 a1 a2 a3 a4 a5 a6 a7 a8 b) n := by
  pointwise [k0_pay5]
  simp only [pay4_at a0 a1 a2 a3 a4 a5 a6 a7 a8 c hc]
  rfl

/-- The quantisation scales. -/
theorem pay6_at (c : Ideal .f32) (hc : c = Scalar.ofBits .f32 0x44C00000#32) (b : Fin 2) :
    k0_pay6 a6 a7 a8 (k0_pay1 a0 a1 a2 a3 a4 a5) (k0_pay2 a0 a1 a2 a3 a4 a5) c (ix1 b)
      = Spec.scale (Spec.unit (mRow a0 a1 a2 a3 a4 a5 a6 a7 a8 b)) := by
  pointwise [k0_pay6]
  simp only [pay5_at a0 a1 a2 a3 a4 a5 a6 a7 a8 c hc]
  rfl

/-- The quantised words. -/
theorem pay8_at (c : Ideal .f32) (hc : c = Scalar.ofBits .f32 0x44C00000#32) (b : Fin 2) (n : Fin 1536) :
    k0_pay8 (k0_pay7 a6 a7 a8 (k0_pay1 a0 a1 a2 a3 a4 a5) (k0_pay2 a0 a1 a2 a3 a4 a5) c)
        (Scalar.ofBits .f32 0xC2FE0000#32) (ix2 b n)
      = Spec.code (Spec.unit (mRow a0 a1 a2 a3 a4 a5 a6 a7 a8 b)) n := by
  pointwise [k0_pay8, k0_pay7]
  simp only [pay5_at a0 a1 a2 a3 a4 a5 a6 a7 a8 c hc, pay6_at a0 a1 a2 a3 a4 a5 a6 a7 a8 c hc]
  rfl

variable (v : FVec Ideal S2x1536 .f32)

/-- The first 384 elements divided by their length. -/
theorem pay10_at (b : Fin 2) (n : Fin 384) :
    k0_pay10 v (ix2 b n) = Spec.unit (Spec.head fun n => v (ix2 b n)) n := by
  pointwise [k0_pay10, Spec.unit]

/-- Their quantisation scales. -/
theorem pay11_at (b : Fin 2) :
    k0_pay11 v (ix1 b) = Spec.scale (Spec.unit (Spec.head fun n => v (ix2 b n))) := by
  pointwise [k0_pay11]
  simp only [pay10_at]
  rfl

/-- Their quantised words. -/
theorem pay12_at (b : Fin 2) (n : Fin 384) :
    k0_pay12 v (ix2 b n) = Spec.code (Spec.unit (Spec.head fun n => v (ix2 b n))) n := by
  pointwise [k0_pay12]
  simp only [pay10_at, pay11_at]
  rfl

/-- The same scales, as a column. -/
theorem pay13_at (b : Fin 2) :
    k0_pay13 v (ix2 b 0) = Spec.scale (Spec.unit (Spec.head fun n => v (ix2 b n))) := by
  pointwise [k0_pay13]
  exact pay11_at v b

/-- A zero offset on one axis. -/
theorem hz1 : (![0] : Fin 1 → Nat) = fun _ => 0 := funext fun a => by fin_cases a; rfl
/-- A zero offset on two axes. -/
theorem hz2 : (![0, 0] : Fin 2 → Nat) = fun _ => 0 := funext fun a => by fin_cases a <;> rfl
/-- A zero offset on three axes. -/
theorem hz3 : (![0, 0, 0] : Fin 3 → Nat) = fun _ => 0 := funext fun a => by fin_cases a <;> rfl

/-- Loading the whole arguments reads them: the centred rows. -/
theorem pay14_eq : k0_pay14 a0 a1 a2 a3 a4 a5 a6 a7 a8 = k0_pay1 a0 a1 a2 a3 a4 a5 := by
  unfold k0_pay14
  rw [View.ld_unit_zero (S := S2x1024x1536) hz3 _ a0, View.ld_unit_zero (S := S2x1024x8960) hz3 _ a1, View.ld_unit_zero (S := S2x1024x70) hz3 _ a2,
    View.ld_unit_zero (S := S8960x1536) hz2 _ a3, View.ld_unit_zero (S := S70x12) hz2 _ a4, View.ld_unit_zero (S := S1536) hz1 _ a5]

/-- Loading the whole arguments reads them: the sums of squares. -/
theorem pay15_eq : k0_pay15 a0 a1 a2 a3 a4 a5 a6 a7 a8 = k0_pay2 a0 a1 a2 a3 a4 a5 := by
  unfold k0_pay15
  rw [View.ld_unit_zero (S := S2x1024x1536) hz3 _ a0, View.ld_unit_zero (S := S2x1024x8960) hz3 _ a1, View.ld_unit_zero (S := S2x1024x70) hz3 _ a2,
    View.ld_unit_zero (S := S8960x1536) hz2 _ a3, View.ld_unit_zero (S := S70x12) hz2 _ a4, View.ld_unit_zero (S := S1536) hz1 _ a5]

/-- Loading the whole arguments reads them: the means. -/
theorem pay16_eq : k0_pay16 a0 a1 a2 a3 a4 a5 a6 a7 a8
    = k0_pay4 a6 a7 a8 (k0_pay1 a0 a1 a2 a3 a4 a5) (k0_pay2 a0 a1 a2 a3 a4 a5) (Scalar.ofBits .f32 0x44C00000#32) := by
  unfold k0_pay16
  rw [pay14_eq, pay15_eq, View.ld_unit_zero (S := S1536) hz1 _ a6, View.ld_unit_zero (S := S1536) hz1 _ a7, View.ld_unit_zero (S := S2) hz1 _ a8]

/-- Result 1 of the reference. -/
theorem G9_at (b : Fin 2) (l : Fin 1024) (n : Fin 1536) :
    G9 a0 a1 a2 a3 a4 a5 a6 a7 a8 (ix3 b l n) = zRow a0 a1 a2 a3 a4 a5 a6 a7 a8 b l n := by
  unfold G9
  rw [pay14_eq, pay15_eq]
  exact pay3_at a0 a1 a2 a3 a4 a5 a6 a7 a8 _ rfl b l n

/-- Result 2 of the reference. -/
theorem G10_at (b : Fin 2) (n : Fin 1536) :
    G10 a0 a1 a2 a3 a4 a5 a6 a7 a8 (ix2 b n) = mRow a0 a1 a2 a3 a4 a5 a6 a7 a8 b n := by
  unfold G10
  rw [pay16_eq]
  exact pay4_at a0 a1 a2 a3 a4 a5 a6 a7 a8 _ rfl b n

/-- Result 3 of the reference. -/
theorem G11_at (b : Fin 2) (n : Fin 1536) :
    G11 a0 a1 a2 a3 a4 a5 a6 a7 a8 (ix2 b n) = Spec.code (Spec.unit (mRow a0 a1 a2 a3 a4 a5 a6 a7 a8 b)) n := by
  unfold G11
  rw [pay14_eq, pay15_eq]
  exact pay8_at a0 a1 a2 a3 a4 a5 a6 a7 a8 _ rfl b n

/-- Result 4 of the reference. -/
theorem G12_at (b : Fin 2) :
    G12 a0 a1 a2 a3 a4 a5 a6 a7 a8 (ix2 b 0) = Spec.scale (Spec.unit (mRow a0 a1 a2 a3 a4 a5 a6 a7 a8 b)) := by
  unfold G12
  rw [pay14_eq, pay15_eq]
  pointwise [k0_pay9]
  exact pay6_at a0 a1 a2 a3 a4 a5 a6 a7 a8 _ rfl b

/-- Result 5 of the reference. -/
theorem G13_at (b : Fin 2) (n : Fin 384) :
    G13 a0 a1 a2 a3 a4 a5 a6 a7 a8 (ix2 b n) = Spec.code (Spec.unit (Spec.head (mRow a0 a1 a2 a3 a4 a5 a6 a7 a8 b))) n := by
  unfold G13
  rw [pay16_eq, pay12_at]
  simp only [pay4_at a0 a1 a2 a3 a4 a5 a6 a7 a8 _ rfl]

/-- Result 6 of the reference. -/
theorem G14_at (b : Fin 2) :
    G14 a0 a1 a2 a3 a4 a5 a6 a7 a8 (ix2 b 0) = Spec.scale (Spec.unit (Spec.head (mRow a0 a1 a2 a3 a4 a5 a6 a7 a8 b))) := by
  unfold G14
  rw [pay16_eq]
  rw [pay13_at]
  simp only [pay4_at a0 a1 a2 a3 a4 a5 a6 a7 a8 _ rfl]

end Cert.ReferenceIdeal.Hand

end
-- ==== Proof.Pay.lean ====
/-
  The kernel's stored values, read index by index: what one grid point stores of the projection, the layer norm, the running sums
  and, at the last point, the pooled and quantised vectors, as functions of `Spec.lean`.
-/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe

section Point

variable (A : Vec Ideal S256x8960 .bf16) (W : Vec Ideal S8960x1536 .bf16) (x : Vec Ideal S1x256x1536 .bf16)
  (bias g b : Vec Ideal S1x1536 .f32) (u : FVec Ideal S256x1536 .f32) (arg0 arg1 : BitVec 32) (len : Elt Ideal .i32)

/-- A row of a point's block before the layer norm. -/
abbrev tileRow (r : Fin 256) : Fin 1536 → EReal :=
  Spec.pre (fun n => x (ix3 0 r n)) (fun k => A (ix2 r k)) (fun k n => W (ix2 k n)) (fun n => bias (ix2 0 n))

/-- The centred rows of a point's block. -/
theorem pay1111_at (r : Fin 256) (n : Fin 1536) :
    k0_pay1111 A W x bias (ix2 r n) = Spec.cen (tileRow A W x bias r) n := by
  pointwise [k0_pay1111, Spec.cen, Spec.pre]

/-- The masked, normalised rows of a point's block. -/
theorem pay1112_at (r : Fin 256) (n : Fin 1536) :
    k0_pay1112 arg1 (k0_pay1111 A W x bias) g b len (ix2 r n)
      = Scalar.select (IntOp.cmpi .slt (arg1 * 256#32 + BitVec.ofNat 32 r) len)
          (Spec.norm (tileRow A W x bias r) (fun n => g (ix2 0 n)) (fun n => b (ix2 0 n)) n) 0 := by
  pointwise [k0_pay1112]
  simp only [pay1111_at]
  rfl

/-- The same rows as the block the point stores. -/
theorem pay1113_at (r : Fin 256) (n : Fin 1536) :
    k0_pay1113 arg1 (k0_pay1111 A W x bias) g b len (ix3 0 r n)
      = Scalar.select (IntOp.cmpi .slt (arg1 * 256#32 + BitVec.ofNat 32 r) len)
          (Spec.norm (tileRow A W x bias r) (fun n => g (ix2 0 n)) (fun n => b (ix2 0 n)) n) 0 := by
  pointwise [k0_pay1113]
  exact pay1112_at ..

/-- The sums down the columns of a point's block. -/
theorem pay1115_at (q : Fin 8) (n : Fin 1536) :
    k0_pay1115 arg1 u g b len (ix2 q n) = ∑ r : Fin 256, k0_pay1112 arg1 u g b len (ix2 r n) := by
  pointwise [k0_pay1115]

/-- The mask of the row of the running sums that a point adds to. -/
theorem pay1114_at (q : Fin 8) (n : Fin 1536) :
    k0_pay1114 arg0 (ix2 q n) = IntOp.cmpi .eq (BitVec.ofNat 32 q) arg0 := by
  pointwise [k0_pay1114]

/-- The running sums after a point. -/
theorem pay1_at (s : Vec Ideal S8x1536 .f32) (z : Ideal .f32) (mk : IVec S8x1536 1) (v : FVec Ideal S8x1536 .f32) (q : Fin 8) (n : Fin 1536) :
    k0_pay1 s z mk v (ix2 q n) = s (ix2 q n) + Scalar.select (mk (ix2 q n)) (v (ix2 q n)) z := by
  pointwise [k0_pay1]

/-- The running sums start at zero. -/
theorem pay1017_at (q : Fin 8) (n : Fin 1536) : (k0_pay1017 (F := Ideal)) (ix2 q n) = 0 := by
  pointwise [k0_pay1017]

end Point

section Last

variable (rows : IVec S8x1 32) (l0 l1 : Elt Ideal .i32) (s : Vec Ideal S8x1536 .f32) (v : FVec Ideal S2x1536 .f32)

/-- The pooled rows: each running sum divided by its sequence's length. -/
theorem pay1013_at (b : Fin 2) (n : Fin 1536) :
    k0_pay1013 rows l0 l1 s (ix2 b n)
      = Spec.pooled (s (ix2 ⟨b, by omega⟩ n)) (Scalar.select (IntOp.cmpi .eq (rows (ix2 ⟨b, by omega⟩ 0)) 0#32) l0 l1) := by
  pointwise [k0_pay1013, Spec.pooled]

/-- The pooled rows divided by their length. -/
theorem pay1014_at (b : Fin 2) (n : Fin 1536) :
    k0_pay1014 rows l0 l1 s (ix2 b n) = Spec.unit (fun n => k0_pay1013 rows l0 l1 s (ix2 b n)) n := by
  pointwise [k0_pay1014, Spec.unit]

/-- Their quantisation scales. -/
theorem pay1015_at (b : Fin 2) :
    k0_pay1015 rows l0 l1 s (ix2 b 0) = Spec.scale (Spec.unit (fun n => k0_pay1013 rows l0 l1 s (ix2 b n))) := by
  pointwise [k0_pay1015]
  simp only [pay1014_at]
  rfl

/-- Their quantised words. -/
theorem pay1016_at (b : Fin 2) (n : Fin 1536) :
    k0_pay1016 rows l0 l1 s (ix2 b n) = Spec.code (Spec.unit (fun n => k0_pay1013 rows l0 l1 s (ix2 b n))) n := by
  pointwise [k0_pay1016]
  simp only [pay1014_at, pay1015_at]
  rfl

/-- The first 384 elements divided by their length. -/
theorem pay2_at (b : Fin 2) (n : Fin 384) :
    k0_pay2 v (ix2 b n) = Spec.unit (Spec.head fun n => v (ix2 b n)) n := by
  pointwise [k0_pay2, Spec.unit]

/-- Their quantisation scales. -/
theorem pay3_at (b : Fin 2) :
    k0_pay3 v (ix2 b 0) = Spec.scale (Spec.unit (Spec.head fun n => v (ix2 b n))) := by
  pointwise [k0_pay3]
  simp only [pay2_at]
  rfl

/-- Their quantised words. -/
theorem pay4_at (b : Fin 2) (n : Fin 384) :
    k0_pay4 v (ix2 b n) = Spec.code (Spec.unit (Spec.head fun n => v (ix2 b n))) n := by
  pointwise [k0_pay4]
  simp only [pay2_at, pay3_at]
  rfl

end Last

end Cert.KernelIdeal.Hand

end
-- ==== Proof.Blocks.lean ====
/-
  The kernel dequantises both operands block by block, one store per block. Here the list of stores is built by counting, each store
  is read as a block of one function of the whole buffer, and so the buffer holds that function.
-/
module

public import proofs.«01_k».proof.Proof.Pay
public import proofs.«01_k».proof.Proof.Gen.KernelIdeal.Frame.Runs
public import Idealize.ShloMosaic.Lib.Pipeline.ReadBack

@[expose] public section

set_option maxRecDepth 16384

noncomputable section

namespace Cert.KernelIdeal.Hand

open Cert.KernelIdeal Cert.KernelIdeal.Gen Idealize.ShloMosaic Idealize.ShloMosaic.TcCoe Idealize.ShloMosaic.Tactic

/-- Stores that are all blocks of one function leave that function wherever one of them reaches. -/
theorem canon_pieces {Val : EltTy → Type} [∀ e, Nonempty (Val e)] {S : Shape} {e : EltTy} (G : S.Idx → Val e)
    (L : List (View.Piece Val S e)) (h : ∀ p ∈ L, ∀ x : p.1.shape.Idx, p.2 x = G (p.1.emb x))
    (hc : ∀ y : S.Idx, ∃ p ∈ L, y ∈ p.1.set) : View.canon L = G := by
  funext y
  simpa using View.canon_append_of_pieces G [] L h y (hc y)

/-- A list counted up from its first member. -/
def count {α : Type} (f : ℕ → α) : ℕ → List α
  | 0 => []
  | n + 1 => f n :: count f n

/-- Every member of a counted list is one of the counted values. -/
theorem of_mem_count {α : Type} {f : ℕ → α} : ∀ {n : ℕ} {p : α}, p ∈ count f n → ∃ k, p = f k
  | 0, _, h => absurd h List.not_mem_nil
  | n + 1, p, h => by
    rcases List.mem_cons.mp h with rfl | h
    · exact ⟨n, rfl⟩
    · exact of_mem_count h

section Hidden

variable (arg4 : Memref sig .tc .vmem S1x256x8960 .fp8e4m3) (harg4 : arg4.IsWhole) (arg5 : Memref sig .tc .vmem S1x256x70 .f32) (harg5 : arg5.IsWhole)
  (x2 : Vec Ideal S1x256x8960 .fp8e4m3) (x3 : Vec Ideal S1x256x70 .f32)

/-- The store of the `k`-th block of columns of the hidden operand. -/
def hdPiece (k : ℕ) : View.Piece (Elt Ideal) S256x8960 .bf16 :=
  ⟨Rect.unit (s := S256x8960) ![0, min k 69 * 128] S256x128.size (by intro a; fin_cases a <;> simp <;> omega),
    k0_pay1019 (F := Ideal)
      (View.readAt (Elt Ideal) arg5.view (Rect.unit (s := S1x256x70) ![0, 0, min k 69] S1x256x1.size (by intro a; fin_cases a <;> simp <;> omega)).toLoadRect (harg5.unread x3))
      (View.readAt (Elt Ideal) arg4.view (Rect.unit (s := S1x256x8960) ![0, 0, min k 69 * 128] S1x256x128.size (by intro a; fin_cases a <;> simp <;> omega)).toLoadRect
        (harg4.unread x2))⟩

/-- The dequantised rows of a point's block of the hidden operand. -/
def hdOf : Vec Ideal S256x8960 .bf16 := fun i =>
  Spec.hd (fun k => x2 (ix3 0 (i 0) k)) (fun k => x3 (ix3 0 (i 0) k)) (i 1)

/-- Each store is its block of the dequantised rows. -/
theorem hdPiece_at (k : ℕ) (x : (hdPiece arg4 harg4 arg5 harg5 x2 x3 k).1.shape.Idx) :
    (hdPiece arg4 harg4 arg5 harg5 x2 x3 k).2 x = hdOf x2 x3 ((hdPiece arg4 harg4 arg5 harg5 x2 x3 k).1.emb x) := by
  unfold hdPiece hdOf Spec.hd
  dsimp only
  simp only [View.readAt_eq_ld, harg4.read_unread, harg5.read_unread]
  obtain ⟨r, q, rfl⟩ : ∃ r q, x = ix2 r q := ⟨x 0, x 1, by funext a; fin_cases a <;> rfl⟩
  have he : ∀ h : ∀ a, ![0, min k 69 * 128] a + S256x128.size a ≤ S256x8960.size a,
      (Rect.unit (s := S256x8960) ![0, min k 69 * 128] S256x128.size h).emb (ix2 r q) = ix2 r ⟨min k 69 * 128 + q, by omega⟩ := fun h => by
    funext a; fin_cases a
    · exact Fin.ext (show 0 + 1 * (r : ℕ) = r by omega)
    · exact Fin.ext (show min k 69 * 128 + 1 * (q : ℕ) = min k 69 * 128 + q by omega)
  simp only [he]
  pointwise [k0_pay1019]
  have hb : Spec.blk ⟨min k 69 * 128 + q, by omega⟩ = ⟨min k 69, by omega⟩ := Fin.ext (by simp only [Spec.blk]; omega)
  rw [hb]

theorem hd_tiled : View.Piece.tiledL (count (hdPiece arg4 harg4 arg5 harg5 x2 x3) 70) S256x128.size = true := by
  sl_kernel_rfl

/-- The hidden operand's buffer holds the dequantised rows. -/
theorem hd_canon : View.canon (count (hdPiece arg4 harg4 arg5 harg5 x2 x3) 70) = hdOf x2 x3 :=
  canon_pieces _ _ (fun p hp x => by obtain ⟨k, rfl⟩ := of_mem_count hp; exact hdPiece_at ..)
    (View.cover_of_tiledL _ S256x128.size (hd_tiled ..))

end Hidden

section Weight

variable (arg6 : Memref sig .tc .vmem S8960x1536 .fp8e4m3) (harg6 : arg6.IsWhole) (arg7 : Memref sig .tc .smem S70x12 .f32) (harg7 : arg7.IsWhole)
  (x4 : Vec Ideal S8960x1536 .fp8e4m3) (x5 : Vec Ideal S70x12 .f32)

/-- The store of the `k`-th block of the weight, twelve blocks to a row of blocks. -/
def wdPiece (k : ℕ) : View.Piece (Elt Ideal) S8960x1536 .bf16 :=
  ⟨Rect.unit (s := S8960x1536) ![min (k / 12) 69 * 128, k % 12 * 128] S128x128.size (by intro a; fin_cases a <;> simp <;> omega),
    k0_pay5 (F := Ideal)
      (View.readAt (Elt Ideal) arg7.view (Rect.unit (s := S70x12) ![min (k / 12) 69, k % 12] S1x1.size (by intro a; fin_cases a <;> simp <;> omega)).toLoadRect
        (harg7.unread x5) (Shape.Idx.first (show 0 < S1x1.numel by decide)))
      (View.readAt (Elt Ideal) arg6.view
        (Rect.unit (s := S8960x1536) ![min (k / 12) 69 * 128, k % 12 * 128] S128x128.size (by intro a; fin_cases a <;> simp <;> omega)).toLoadRect (harg6.unread x4))⟩

/-- The dequantised weight. -/
def wdOf : Vec Ideal S8960x1536 .bf16 := fun i => Spec.wd (fun k n => x4 (ix2 k n)) (fun k n => x5 (ix2 k n)) (i 0) (i 1)

/-- Each store is its block of the dequantised weight. -/
theorem wdPiece_at (k : ℕ) (x : (wdPiece arg6 harg6 arg7 harg7 x4 x5 k).1.shape.Idx) :
    (wdPiece arg6 harg6 arg7 harg7 x4 x5 k).2 x = wdOf x4 x5 ((wdPiece arg6 harg6 arg7 harg7 x4 x5 k).1.emb x) := by
  unfold wdPiece wdOf Spec.wd
  dsimp only
  simp only [View.readAt_eq_ld, harg6.read_unread, harg7.read_unread]
  obtain ⟨r, q, rfl⟩ : ∃ r q, x = ix2 r q := ⟨x 0, x 1, by funext a; fin_cases a <;> rfl⟩
  have he : ∀ h : ∀ a, ![min (k / 12) 69 * 128, k % 12 * 128] a + S128x128.size a ≤ S8960x1536.size a,
      (Rect.unit (s := S8960x1536) ![min (k / 12) 69 * 128, k % 12 * 128] S128x128.size h).emb (ix2 r q)
        = ix2 ⟨min (k / 12) 69 * 128 + r, by omega⟩ ⟨k % 12 * 128 + q, by omega⟩ := fun h => by
    funext a; fin_cases a
    · exact Fin.ext (show min (k / 12) 69 * 128 + 1 * (r : ℕ) = min (k / 12) 69 * 128 + r by omega)
    · exact Fin.ext (show k % 12 * 128 + 1 * (q : ℕ) = k % 12 * 128 + q by omega)
  simp only [he]
  pointwise [k0_pay5]
  have hb : Spec.blk ⟨min (k / 12) 69 * 128 + r, by omega⟩ = ⟨min (k / 12) 69, by omega⟩ := Fin.ext (by simp only [Spec.blk]; omega)
  have hc : Spec.cblk ⟨k % 12 * 128 + q, by omega⟩ = ⟨k % 12, by omega⟩ := Fin.ext (by simp only [Spec.cblk]; omega)
  rw [hb, hc]

theorem wd_tiled : View.Piece.tiledL (count (wdPiece arg6 harg6 arg7 harg7 x4 x5) 840) S128x128.size = true := by
  sl_kernel_rfl

/-- The weight's buffer holds the dequantised weight. -/
theorem wd_canon : View.canon (count (wdPiece arg6 harg6 arg7 harg7 x4 x5) 840) = wdOf x4 x5 :=
  canon_pieces _ _ (fun p hp x => by obtain ⟨k, rfl⟩ := of_mem_count hp; exact wdPiece_at ..)
    (View.cover_of_tiledL _ S128x128.size (wd_tiled ..))

end Weight

end Cert.KernelIdeal.Hand

end
-- ==== Proof.Cases.lean ====
/-
  What each kind of grid point leaves in the buffers: the first point (`A`), the points between (`B`) and the last (`C`). The lists of
  stores of the generated runs are the counted lists of `Blocks.lean` and single whole-buffer stores, by unfolding.
-/
module

public import proofs.«01_k».proof.Proof.Blocks
public import proofs.«01_k».proof.Proof.Gen.KernelIdeal.Frame.RunC

@[expose] public section

set_option maxRecDepth 16384

noncomputable section

namespace Cert.KernelIdeal.Hand

open Cert.KernelIdeal Cert.KernelIdeal.Gen Idealize.ShloMosaic Idealize.ShloMosaic.TcCoe Idealize.ShloMosaic.Tactic

/-- The zero offsets of a load of a whole buffer of two axes. -/
theorem zero2 : (![0, 0] : Fin 2 → ℕ) = fun _ => 0 := by funext a; fin_cases a <;> rfl

/-- The zero offsets of a load of a whole buffer of three axes. -/
theorem zero3 : (![0, 0, 0] : Fin 3 → ℕ) = fun _ => 0 := by funext a; fin_cases a <;> rfl

/-- A load of a whole buffer through a unit rectangle at the origin reads its contents. -/
theorem load_whole {sp : Space} {S : Shape} {e : EltTy} (M : Memref sig .tc sp S e) (h : M.IsWhole) {off : Fin S.rank → ℕ}
    (hz : off = fun _ => 0) (inb : ∀ a, off a + S.size a ≤ S.size a) (X : Vec Ideal S e) :
    View.readAt (Elt Ideal) M.view (Rect.unit (s := S) off S.size inb).toLoadRect (h.unread X) = X := by
  rw [View.readAt_eq_ld, h.read_unread]; exact View.ld_unit_zero (S := S) hz inb X

/-- A load of a whole buffer after stores reads what the stores leave. -/
theorem load_stores {sp : Space} {S : Shape} {e : EltTy} (v : View sig .tc sp S e) (L : List (View.Piece (Elt Ideal) S e)) {off : Fin S.rank → ℕ}
    (hz : off = fun _ => 0) (inb : ∀ a, off a + S.size a ≤ S.size a) :
    v.readCov L (Rect.unit (s := S) off S.size inb).toLoadRect = View.canon L := by
  rw [View.readCov_eq_canon']; exact View.ld_unit_zero (S := S) hz inb _

/-- What the last store of a whole buffer leaves. -/
theorem canon_whole {S : Shape} {e : EltTy} {off : Fin S.rank → ℕ} (hz : off = fun _ => 0) (inb : ∀ a, off a + S.size a ≤ S.size a)
    (w : Vec Ideal S e) (L : List (View.Piece (Elt Ideal) S e)) :
    View.canon (⟨Rect.unit (s := S) off S.size inb, w⟩ :: L : List (View.Piece (Elt Ideal) S e)) = w :=
  View.canon_cons_unit_zero (S := S) hz inb w L

variable (c : Dev nD) (i : grid0.Coords) (arg2 : Memref sig .tc .smem S2 .i32) (harg2 : arg2.IsWhole) (arg3 : Memref sig .tc .vmem S1x256x1536 .bf16) (harg3 :
  arg3.IsWhole) (arg4 : Memref sig .tc .vmem S1x256x8960 .fp8e4m3) (harg4 : arg4.IsWhole) (arg5 : Memref sig .tc .vmem S1x256x70 .f32) (harg5 :
  arg5.IsWhole) (arg6 : Memref sig .tc .vmem S8960x1536 .fp8e4m3) (harg6 : arg6.IsWhole) (arg7 : Memref sig .tc .smem S70x12 .f32) (harg7 :
  arg7.IsWhole) (arg8 : Memref sig .tc .vmem S1x1536 .f32) (harg8 : arg8.IsWhole) (arg9 : Memref sig .tc .vmem S1x1536 .f32) (harg9 : arg9.IsWhole)
  (arg10 : Memref sig .tc .vmem S1x1536 .f32) (harg10 : arg10.IsWhole) (arg11 : Memref sig .tc .vmem S1x256x1536 .f32) (harg11 : arg11.IsWhole) (arg12 :
  Memref sig .tc .vmem S2x1536 .f32) (harg12 : arg12.IsWhole) (arg13 : Memref sig .tc .vmem S2x1536 .i8) (harg13 : arg13.IsWhole) (arg14 : Memref sig
  .tc .vmem S2x1 .f32) (harg14 : arg14.IsWhole) (arg15 : Memref sig .tc .vmem S2x384 .i8) (harg15 : arg15.IsWhole) (arg16 : Memref sig .tc .vmem S2x1
  .f32) (harg16 : arg16.IsWhole) (arg17 : Memref sig .tc .vmem S8960x1536 .bf16) (harg17 : arg17.IsWhole) (arg18 : Memref sig .tc .vmem S256x8960 .bf16)
  (harg18 : arg18.IsWhole) (arg19 : Memref sig .tc .vmem S8x1536 .f32) (harg19 : arg19.IsWhole) (x0 : Vec Ideal S2 .i32) (x1 : Vec Ideal S1x256x1536
  .bf16) (x2 : Vec Ideal S1x256x8960 .fp8e4m3) (x3 : Vec Ideal S1x256x70 .f32) (x4 : Vec Ideal S8960x1536 .fp8e4m3) (x5 : Vec Ideal S70x12 .f32) (x6 :
  Vec Ideal S1x1536 .f32) (x7 : Vec Ideal S1x1536 .f32) (x8 : Vec Ideal S1x1536 .f32) (xs0 : Vec Ideal S8960x1536 .bf16) (xs2 : Vec Ideal S8x1536 .f32)

/-- The dequantised hidden block as the projection loads it. -/
def hdLoad : Vec Ideal S256x8960 .bf16 :=
  arg18.view.readCov (count (hdPiece arg4 harg4 arg5 harg5 x2 x3) 70) (Rect.unit (s := S256x8960) ![0, 0] S256x8960.size inb_S256x8960_S256x8960_0_0).toLoadRect

/-- The dequantised weight as the first point's projection loads it. -/
def wdLoad : Vec Ideal S8960x1536 .bf16 :=
  arg17.view.readCov (count (wdPiece arg6 harg6 arg7 harg7 x4 x5) 840) (Rect.unit (s := S8960x1536) ![0, 0] S8960x1536.size inb_S8960x1536_S8960x1536_0_0).toLoadRect

/-- The length the point's mask loads. -/
def lenLoad : Elt Ideal .i32 :=
  View.readAt (Elt Ideal) arg2.view (Rect.unit (s := S2) (k0_off1 i) S1.size (k0_off1_inb i)).toLoadRect (harg2.unread x0) (Shape.Idx.first (show 0 < S1.numel by decide))

/-- The centred rows, over the weight the point loads. -/
def cenLoad (W : Vec Ideal S8960x1536 .bf16) : FVec Ideal S256x1536 .f32 :=
  k0_pay1111 (hdLoad arg4 harg4 arg5 harg5 arg18 x2 x3) W
    (View.readAt (Elt Ideal) arg3.view (Rect.unit (s := S1x256x1536) ![0, 0, 0] S1x256x1536.size inb_S1x256x1536_S1x256x1536_0_0_0).toLoadRect (harg3.unread x1))
    (View.readAt (Elt Ideal) arg8.view (Rect.unit (s := S1x1536) ![0, 0] S1x1536.size inb_S1x1536_S1x1536_0_0).toLoadRect (harg8.unread x6))

/-- The block of rows the point stores. -/
def zLoad (W : Vec Ideal S8960x1536 .bf16) : Vec Ideal S1x256x1536 .f32 :=
  k0_pay1113 (BitVec.ofNat 32 (i 1)) (cenLoad arg3 harg3 arg4 harg4 arg5 harg5 arg8 harg8 arg18 x1 x2 x3 x6 W)
    (View.readAt (Elt Ideal) arg9.view (Rect.unit (s := S1x1536) ![0, 0] S1x1536.size inb_S1x1536_S1x1536_0_0).toLoadRect (harg9.unread x7))
    (View.readAt (Elt Ideal) arg10.view (Rect.unit (s := S1x1536) ![0, 0] S1x1536.size inb_S1x1536_S1x1536_0_0).toLoadRect (harg10.unread x8))
    (lenLoad i arg2 harg2 x0)

/-- The running sums the point stores, over the sums it loads. -/
def sumLoad (W : Vec Ideal S8960x1536 .bf16) (S : Vec Ideal S8x1536 .f32) : Vec Ideal S8x1536 .f32 :=
  k0_pay1 S (Scalar.ofBits .f32 0x00000000#32) (k0_pay1114 (BitVec.ofNat 32 (i 0)))
    (k0_pay1115 (BitVec.ofNat 32 (i 1)) (cenLoad arg3 harg3 arg4 harg4 arg5 harg5 arg8 harg8 arg18 x1 x2 x3 x6 W)
      (View.readAt (Elt Ideal) arg9.view (Rect.unit (s := S1x1536) ![0, 0] S1x1536.size inb_S1x1536_S1x1536_0_0).toLoadRect (harg9.unread x7))
      (View.readAt (Elt Ideal) arg10.view (Rect.unit (s := S1x1536) ![0, 0] S1x1536.size inb_S1x1536_S1x1536_0_0).toLoadRect (harg10.unread x8))
      (lenLoad i arg2 harg2 x0))

/-- A length the last point loads by its place. -/
def lenAt (a : Fin 1 → ℕ) (inb : ∀ d, a d + S1.size d ≤ S2.size d) : Elt Ideal .i32 :=
  View.readAt (Elt Ideal) arg2.view (Rect.unit (s := S2) a S1.size inb).toLoadRect (harg2.unread x0) (Shape.Idx.first (show 0 < S1.numel by decide))

/-- The load of the running sums. -/
def sumRead (S : Vec Ideal S8x1536 .f32) : Vec Ideal S8x1536 .f32 :=
  View.readAt (Elt Ideal) arg19.view (Rect.unit (s := S8x1536) ![0, 0] S8x1536.size inb_S8x1536_S8x1536_0_0).toLoadRect (harg19.unread S)

/-- The load of the weight carried from the point before. -/
def wdRead (W : Vec Ideal S8960x1536 .bf16) : Vec Ideal S8960x1536 .bf16 :=
  View.readAt (Elt Ideal) arg17.view (Rect.unit (s := S8960x1536) ![0, 0] S8960x1536.size inb_S8960x1536_S8960x1536_0_0).toLoadRect (harg17.unread W)

/-- The stores of the first point into the block of rows. -/
theorem pieces_A_9 (hc0 : cond0_0 i) (hc1 : ¬cond0_1 i) :
    (kernelRun0_A (F := Ideal) c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3 x4 x5 x6 x7 x8).1
      = [⟨Rect.unit (s := S1x256x1536) ![0, 0, 0] S1x256x1536.size inb_S1x256x1536_S1x256x1536_0_0_0,
          zLoad i arg2 harg2 arg3 harg3 arg4 harg4 arg5 harg5 arg8 harg8 arg9 harg9 arg10 harg10 arg18 x0 x1 x2 x3 x6 x7 x8
            (wdLoad arg6 harg6 arg7 harg7 arg17 x4 x5)⟩] := by
  sl_kernel_rfl

/-- The stores of the first point into the running sums. -/
theorem pieces_A_s2 (hc0 : cond0_0 i) (hc1 : ¬cond0_1 i) :
    (kernelRun0_A (F := Ideal) c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3 x4 x5 x6 x7 x8).2.2.2.2.2.2.2.1
      = [⟨Rect.unit (s := S8x1536) ![0, 0] S8x1536.size inb_S8x1536_S8x1536_0_0,
          sumLoad i arg2 harg2 arg3 harg3 arg4 harg4 arg5 harg5 arg8 harg8 arg9 harg9 arg10 harg10 arg18 x0 x1 x2 x3 x6 x7 x8
            (wdLoad arg6 harg6 arg7 harg7 arg17 x4 x5) (arg19.view.readCov [⟨Rect.unit (s := S8x1536) ![0, 0] S8x1536.size inb_S8x1536_S8x1536_0_0, k0_pay1017 (F := Ideal)⟩] (Rect.unit (s := S8x1536) ![0, 0] S8x1536.size inb_S8x1536_S8x1536_0_0).toLoadRect)⟩,
        ⟨Rect.unit (s := S8x1536) ![0, 0] S8x1536.size inb_S8x1536_S8x1536_0_0, k0_pay1017 (F := Ideal)⟩] := by
  sl_kernel_rfl

/-- The stores of the middle points into the block of rows. -/
theorem pieces_B_9 (hc0 : ¬cond0_0 i) (hc1 : ¬cond0_1 i) :
    (kernelRun0_B (F := Ideal) c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3 x4 x5 x6 x7 x8 xs0 xs2).1
      = [⟨Rect.unit (s := S1x256x1536) ![0, 0, 0] S1x256x1536.size inb_S1x256x1536_S1x256x1536_0_0_0,
          zLoad i arg2 harg2 arg3 harg3 arg4 harg4 arg5 harg5 arg8 harg8 arg9 harg9 arg10 harg10 arg18 x0 x1 x2 x3 x6 x7 x8
            (wdRead arg17 harg17 xs0)⟩] := by
  sl_kernel_rfl

/-- The stores of the middle points into the running sums. -/
theorem pieces_B_s2 (hc0 : ¬cond0_0 i) (hc1 : ¬cond0_1 i) :
    (kernelRun0_B (F := Ideal) c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3 x4 x5 x6 x7 x8 xs0 xs2).2.2.2.2.2.2.2.1
      = [⟨Rect.unit (s := S8x1536) ![0, 0] S8x1536.size inb_S8x1536_S8x1536_0_0,
          sumLoad i arg2 harg2 arg3 harg3 arg4 harg4 arg5 harg5 arg8 harg8 arg9 harg9 arg10 harg10 arg18 x0 x1 x2 x3 x6 x7 x8
            (wdRead arg17 harg17 xs0) (sumRead arg19 harg19 xs2)⟩] := by
  sl_kernel_rfl

/-- The stores of the last point into the block of rows. -/
theorem pieces_C_9 (hc0 : ¬cond0_0 i) (hc1 : cond0_1 i) :
    (kernelRun0_C (F := Ideal) c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3 x4 x5 x6 x7 x8 xs0 xs2).1
      = [⟨Rect.unit (s := S1x256x1536) ![0, 0, 0] S1x256x1536.size inb_S1x256x1536_S1x256x1536_0_0_0,
          zLoad i arg2 harg2 arg3 harg3 arg4 harg4 arg5 harg5 arg8 harg8 arg9 harg9 arg10 harg10 arg18 x0 x1 x2 x3 x6 x7 x8
            (wdRead arg17 harg17 xs0)⟩] := by
  sl_kernel_rfl

/-- The stores of the last point into the running sums. -/
theorem pieces_C_s2 (hc0 : ¬cond0_0 i) (hc1 : cond0_1 i) :
    (kernelRun0_C (F := Ideal) c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3 x4 x5 x6 x7 x8 xs0 xs2).2.2.2.2.2.2.2.1
      = [⟨Rect.unit (s := S8x1536) ![0, 0] S8x1536.size inb_S8x1536_S8x1536_0_0,
          sumLoad i arg2 harg2 arg3 harg3 arg4 harg4 arg5 harg5 arg8 harg8 arg9 harg9 arg10 harg10 arg18 x0 x1 x2 x3 x6 x7 x8
            (wdRead arg17 harg17 xs0) (sumRead arg19 harg19 xs2)⟩] := by
  sl_kernel_rfl

/-- The stores of the first point into the weight. -/
theorem pieces_A_s0 (hc0 : cond0_0 i) (hc1 : ¬cond0_1 i) :
    (kernelRun0_A (F := Ideal) c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3 x4 x5 x6 x7 x8).2.2.2.2.2.2.1
      = count (wdPiece arg6 harg6 arg7 harg7 x4 x5) 840 := by
  sl_kernel_rfl

/-- The stores of the last point into the pooled rows. -/
theorem pieces_C_10 (hc0 : ¬cond0_0 i) (hc1 : cond0_1 i) :
    (kernelRun0_C (F := Ideal) c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3 x4 x5 x6 x7 x8 xs0 xs2).2.1
      = [⟨Rect.unit (s := S2x1536) ![0, 0] S2x1536.size inb_S2x1536_S2x1536_0_0, k0_pay1013 (iota .tc S8x1 32 [0] iota_S8x1_d0_w32) (lenAt arg2 harg2 x0 ![0] inb_S2_S1_0) (lenAt arg2 harg2 x0 ![1] inb_S2_S1_1)
          (arg19.view.readCov [⟨Rect.unit (s := S8x1536) ![0, 0] S8x1536.size inb_S8x1536_S8x1536_0_0,
            sumLoad i arg2 harg2 arg3 harg3 arg4 harg4 arg5 harg5 arg8 harg8 arg9 harg9 arg10 harg10 arg18 x0 x1 x2 x3 x6 x7 x8
              (wdRead arg17 harg17 xs0) (sumRead arg19 harg19 xs2)⟩]
            (Rect.unit (s := S8x1536) ![0, 0] S8x1536.size inb_S8x1536_S8x1536_0_0).toLoadRect)⟩] := by
  sl_kernel_rfl

/-- The stores of the last point into the quantised words. -/
theorem pieces_C_11 (hc0 : ¬cond0_0 i) (hc1 : cond0_1 i) :
    (kernelRun0_C (F := Ideal) c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3 x4 x5 x6 x7 x8 xs0 xs2).2.2.1
      = [⟨Rect.unit (s := S2x1536) ![0, 0] S2x1536.size inb_S2x1536_S2x1536_0_0, k0_pay1016 (iota .tc S8x1 32 [0] iota_S8x1_d0_w32) (lenAt arg2 harg2 x0 ![0] inb_S2_S1_0) (lenAt arg2 harg2 x0 ![1] inb_S2_S1_1)
          (arg19.view.readCov [⟨Rect.unit (s := S8x1536) ![0, 0] S8x1536.size inb_S8x1536_S8x1536_0_0,
            sumLoad i arg2 harg2 arg3 harg3 arg4 harg4 arg5 harg5 arg8 harg8 arg9 harg9 arg10 harg10 arg18 x0 x1 x2 x3 x6 x7 x8
              (wdRead arg17 harg17 xs0) (sumRead arg19 harg19 xs2)⟩]
            (Rect.unit (s := S8x1536) ![0, 0] S8x1536.size inb_S8x1536_S8x1536_0_0).toLoadRect)⟩] := by
  sl_kernel_rfl

/-- The stores of the last point into the quantisation scales. -/
theorem pieces_C_12 (hc0 : ¬cond0_0 i) (hc1 : cond0_1 i) :
    (kernelRun0_C (F := Ideal) c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3 x4 x5 x6 x7 x8 xs0 xs2).2.2.2.1
      = [⟨Rect.unit (s := S2x1) ![0, 0] S2x1.size inb_S2x1_S2x1_0_0, k0_pay1015 (iota .tc S8x1 32 [0] iota_S8x1_d0_w32) (lenAt arg2 harg2 x0 ![0] inb_S2_S1_0) (lenAt arg2 harg2 x0 ![1] inb_S2_S1_1)
          (arg19.view.readCov [⟨Rect.unit (s := S8x1536) ![0, 0] S8x1536.size inb_S8x1536_S8x1536_0_0,
            sumLoad i arg2 harg2 arg3 harg3 arg4 harg4 arg5 harg5 arg8 harg8 arg9 harg9 arg10 harg10 arg18 x0 x1 x2 x3 x6 x7 x8
              (wdRead arg17 harg17 xs0) (sumRead arg19 harg19 xs2)⟩]
            (Rect.unit (s := S8x1536) ![0, 0] S8x1536.size inb_S8x1536_S8x1536_0_0).toLoadRect)⟩] := by
  sl_kernel_rfl

/-- The stores of the last point into the quantised words of the first 384 elements. -/
theorem pieces_C_13 (hc0 : ¬cond0_0 i) (hc1 : cond0_1 i) :
    (kernelRun0_C (F := Ideal) c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3 x4 x5 x6 x7 x8 xs0 xs2).2.2.2.2.1
      = [⟨Rect.unit (s := S2x384) ![0, 0] S2x384.size inb_S2x384_S2x384_0_0, k0_pay4 (k0_pay1013 (iota .tc S8x1 32 [0] iota_S8x1_d0_w32) (lenAt arg2 harg2 x0 ![0] inb_S2_S1_0) (lenAt arg2 harg2 x0 ![1] inb_S2_S1_1)
          (arg19.view.readCov [⟨Rect.unit (s := S8x1536) ![0, 0] S8x1536.size inb_S8x1536_S8x1536_0_0,
            sumLoad i arg2 harg2 arg3 harg3 arg4 harg4 arg5 harg5 arg8 harg8 arg9 harg9 arg10 harg10 arg18 x0 x1 x2 x3 x6 x7 x8
              (wdRead arg17 harg17 xs0) (sumRead arg19 harg19 xs2)⟩]
            (Rect.unit (s := S8x1536) ![0, 0] S8x1536.size inb_S8x1536_S8x1536_0_0).toLoadRect))⟩] := by
  sl_kernel_rfl

/-- The stores of the last point into the quantisation scales of the first 384 elements. -/
theorem pieces_C_14 (hc0 : ¬cond0_0 i) (hc1 : cond0_1 i) :
    (kernelRun0_C (F := Ideal) c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3 x4 x5 x6 x7 x8 xs0 xs2).2.2.2.2.2.1
      = [⟨Rect.unit (s := S2x1) ![0, 0] S2x1.size inb_S2x1_S2x1_0_0, k0_pay3 (k0_pay1013 (iota .tc S8x1 32 [0] iota_S8x1_d0_w32) (lenAt arg2 harg2 x0 ![0] inb_S2_S1_0) (lenAt arg2 harg2 x0 ![1] inb_S2_S1_1)
          (arg19.view.readCov [⟨Rect.unit (s := S8x1536) ![0, 0] S8x1536.size inb_S8x1536_S8x1536_0_0,
            sumLoad i arg2 harg2 arg3 harg3 arg4 harg4 arg5 harg5 arg8 harg8 arg9 harg9 arg10 harg10 arg18 x0 x1 x2 x3 x6 x7 x8
              (wdRead arg17 harg17 xs0) (sumRead arg19 harg19 xs2)⟩]
            (Rect.unit (s := S8x1536) ![0, 0] S8x1536.size inb_S8x1536_S8x1536_0_0).toLoadRect))⟩] := by
  sl_kernel_rfl

end Cert.KernelIdeal.Hand

end
-- ==== Proof.Values.lean ====
/-
  The values the grid points leave, with every load read: functions of a point's input blocks, the carried weight and the carried sums.
-/
module

public import proofs.«01_k».proof.Proof.Cases
public import proofs.«01_k».proof.Proof.Gen.KernelIdeal.Frame

@[expose] public section

set_option maxRecDepth 16384

noncomputable section

namespace Cert.KernelIdeal.Hand

open Cert.KernelIdeal Cert.KernelIdeal.Gen Idealize.ShloMosaic Idealize.ShloMosaic.TcCoe Idealize.ShloMosaic.Tactic

section Of

variable (i : grid0.Coords) (x0 : Vec Ideal S2 .i32) (x1 : Vec Ideal S1x256x1536 .bf16) (x2 : Vec Ideal S1x256x8960 .fp8e4m3)
  (x3 : Vec Ideal S1x256x70 .f32) (W : Vec Ideal S8960x1536 .bf16) (x6 x7 x8 : Vec Ideal S1x1536 .f32) (S : Vec Ideal S8x1536 .f32)

/-- The block of rows a point stores. -/
def zOf : Vec Ideal S1x256x1536 .f32 :=
  k0_pay1113 (BitVec.ofNat 32 (i 1)) (k0_pay1111 (hdOf x2 x3) W x1 x6) x7 x8 (x0 (ix1 (i 0)))

/-- The running sums a point leaves, from those it found. -/
def sumOf : Vec Ideal S8x1536 .f32 :=
  k0_pay1 S (Scalar.ofBits .f32 0x00000000#32) (k0_pay1114 (BitVec.ofNat 32 (i 0)))
    (k0_pay1115 (BitVec.ofNat 32 (i 1)) (k0_pay1111 (hdOf x2 x3) W x1 x6) x7 x8 (x0 (ix1 (i 0))))

/-- The pooled rows the last point stores, from the running sums. -/
def pooledOf : Vec Ideal S2x1536 .f32 := k0_pay1013 (iota .tc S8x1 32 [0] iota_S8x1_d0_w32) (x0 (ix1 0)) (x0 (ix1 1)) S

/-- Their quantisation scales. -/
def scaleOf : Vec Ideal S2x1 .f32 := k0_pay1015 (iota .tc S8x1 32 [0] iota_S8x1_d0_w32) (x0 (ix1 0)) (x0 (ix1 1)) S

/-- Their quantised words. -/
def codeOf : Vec Ideal S2x1536 .i8 := k0_pay1016 (iota .tc S8x1 32 [0] iota_S8x1_d0_w32) (x0 (ix1 0)) (x0 (ix1 1)) S

end Of

variable (c : Dev nD) (i : grid0.Coords) (arg2 : Memref sig .tc .smem S2 .i32) (harg2 : arg2.IsWhole) (arg3 : Memref sig .tc .vmem S1x256x1536 .bf16) (harg3 :
  arg3.IsWhole) (arg4 : Memref sig .tc .vmem S1x256x8960 .fp8e4m3) (harg4 : arg4.IsWhole) (arg5 : Memref sig .tc .vmem S1x256x70 .f32) (harg5 :
  arg5.IsWhole) (arg6 : Memref sig .tc .vmem S8960x1536 .fp8e4m3) (harg6 : arg6.IsWhole) (arg7 : Memref sig .tc .smem S70x12 .f32) (harg7 :
  arg7.IsWhole) (arg8 : Memref sig .tc .vmem S1x1536 .f32) (harg8 : arg8.IsWhole) (arg9 : Memref sig .tc .vmem S1x1536 .f32) (harg9 : arg9.IsWhole)
  (arg10 : Memref sig .tc .vmem S1x1536 .f32) (harg10 : arg10.IsWhole) (arg11 : Memref sig .tc .vmem S1x256x1536 .f32) (harg11 : arg11.IsWhole) (arg12 :
  Memref sig .tc .vmem S2x1536 .f32) (harg12 : arg12.IsWhole) (arg13 : Memref sig .tc .vmem S2x1536 .i8) (harg13 : arg13.IsWhole) (arg14 : Memref sig
  .tc .vmem S2x1 .f32) (harg14 : arg14.IsWhole) (arg15 : Memref sig .tc .vmem S2x384 .i8) (harg15 : arg15.IsWhole) (arg16 : Memref sig .tc .vmem S2x1
  .f32) (harg16 : arg16.IsWhole) (arg17 : Memref sig .tc .vmem S8960x1536 .bf16) (harg17 : arg17.IsWhole) (arg18 : Memref sig .tc .vmem S256x8960 .bf16)
  (harg18 : arg18.IsWhole) (arg19 : Memref sig .tc .vmem S8x1536 .f32) (harg19 : arg19.IsWhole) (x0 : Vec Ideal S2 .i32) (x1 : Vec Ideal S1x256x1536
  .bf16) (x2 : Vec Ideal S1x256x8960 .fp8e4m3) (x3 : Vec Ideal S1x256x70 .f32) (x4 : Vec Ideal S8960x1536 .fp8e4m3) (x5 : Vec Ideal S70x12 .f32) (x6 :
  Vec Ideal S1x1536 .f32) (x7 : Vec Ideal S1x1536 .f32) (x8 : Vec Ideal S1x1536 .f32) (xs0 : Vec Ideal S8960x1536 .bf16) (xs2 : Vec Ideal S8x1536 .f32)

/-- The hidden block's load reads the dequantised rows. -/
theorem hdLoad_eq : hdLoad arg4 harg4 arg5 harg5 arg18 x2 x3 = hdOf x2 x3 :=
  (load_stores (S := S256x8960) _ _ zero2 _).trans (hd_canon ..)

/-- The first point's load of the weight reads the dequantised weight. -/
theorem wdLoad_eq : wdLoad arg6 harg6 arg7 harg7 arg17 x4 x5 = wdOf x4 x5 :=
  (load_stores (S := S8960x1536) _ _ zero2 _).trans (wd_canon ..)

/-- The length a place in the table names. -/
theorem len_at (a : Fin 1 → ℕ) (inb : ∀ d, a d + S1.size d ≤ S2.size d) (q : Fin 2) (h : a 0 = q) :
    View.readAt (Elt Ideal) arg2.view (Rect.unit (s := S2) a S1.size inb).toLoadRect (harg2.unread x0)
      (Shape.Idx.first (show 0 < S1.numel by decide)) = x0 (ix1 q) := by
  rw [View.readAt_eq_ld, harg2.read_unread]
  refine congrArg x0 (funext fun d => ?_)
  fin_cases d
  exact Fin.ext (show a 0 + 1 * 0 = (q : ℕ) by omega)

/-- The length the point's mask loads is its own sequence's. -/
theorem lenLoad_eq : lenLoad i arg2 harg2 x0 = x0 (ix1 (i 0)) :=
  len_at arg2 harg2 x0 _ _ _ ((by decide : ∀ q : Fin 2, (Scalar.indexCast (BitVec.ofNat 32 q.val)).toNat = q.val) (i 0))

/-- The centred rows with every load read. -/
theorem cenLoad_eq (W : Vec Ideal S8960x1536 .bf16) :
    cenLoad arg3 harg3 arg4 harg4 arg5 harg5 arg8 harg8 arg18 x1 x2 x3 x6 W = k0_pay1111 (hdOf x2 x3) W x1 x6 := by
  unfold cenLoad
  rw [hdLoad_eq, load_whole (S := S1x256x1536) arg3 harg3 zero3, load_whole (S := S1x1536) arg8 harg8 zero2]

/-- The stored block of rows with every load read. -/
theorem zLoad_eq (W : Vec Ideal S8960x1536 .bf16) :
    zLoad i arg2 harg2 arg3 harg3 arg4 harg4 arg5 harg5 arg8 harg8 arg9 harg9 arg10 harg10 arg18 x0 x1 x2 x3 x6 x7 x8 W
      = zOf i x0 x1 x2 x3 W x6 x7 x8 := by
  unfold zLoad zOf
  rw [cenLoad_eq, lenLoad_eq, load_whole (S := S1x1536) arg9 harg9 zero2, load_whole (S := S1x1536) arg10 harg10 zero2]

/-- The stored running sums with every load read. -/
theorem sumLoad_eq (W : Vec Ideal S8960x1536 .bf16) (S : Vec Ideal S8x1536 .f32) :
    sumLoad i arg2 harg2 arg3 harg3 arg4 harg4 arg5 harg5 arg8 harg8 arg9 harg9 arg10 harg10 arg18 x0 x1 x2 x3 x6 x7 x8 W S
      = sumOf i x0 x1 x2 x3 W x6 x7 x8 S := by
  unfold sumLoad sumOf
  rw [cenLoad_eq, lenLoad_eq, load_whole (S := S1x1536) arg9 harg9 zero2, load_whole (S := S1x1536) arg10 harg10 zero2]

/-- The carried weight is read as it was left. -/
theorem wdRead_eq (W : Vec Ideal S8960x1536 .bf16) : wdRead arg17 harg17 W = W := load_whole (S := S8960x1536) _ _ zero2 _ _

/-- The carried sums are read as they were left. -/
theorem sumRead_eq (S : Vec Ideal S8x1536 .f32) : sumRead arg19 harg19 S = S := load_whole (S := S8x1536) _ _ zero2 _ _

/-- What the first point leaves: the block of rows. -/
theorem out0_A_9_eq (hc0 : cond0_0 i) (hc1 : ¬cond0_1 i) :
    out0_A_9 (F := Ideal) c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3 x4 x5 x6 x7 x8
      = zOf i x0 x1 x2 x3 (wdOf x4 x5) x6 x7 x8 := by
  unfold out0_A_9
  rw [View.read_writes_eq_canon _ _ _ (fun _ => cover0_A_9 ..), pieces_A_9, canon_whole (S := S1x256x1536) zero3, zLoad_eq, wdLoad_eq]

/-- What the first point leaves: the running sums. -/
theorem sout0_A_2_eq (hc0 : cond0_0 i) (hc1 : ¬cond0_1 i) :
    sout0_A_2 (F := Ideal) c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3 x4 x5 x6 x7 x8
      = sumOf i x0 x1 x2 x3 (wdOf x4 x5) x6 x7 x8 (k0_pay1017 (F := Ideal)) := by
  unfold sout0_A_2
  rw [View.read_writes_eq_canon _ _ _ (fun _ => scover0_A_2 ..), pieces_A_s2, canon_whole (S := S8x1536) zero2, sumLoad_eq, wdLoad_eq, load_stores (S := S8x1536) _ _ zero2, canon_whole (S := S8x1536) zero2]

/-- What a middle point leaves: the block of rows. -/
theorem out0_B_9_eq (hc0 : ¬cond0_0 i) (hc1 : ¬cond0_1 i) :
    out0_B_9 (F := Ideal) c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3 x4 x5 x6 x7 x8 xs0 xs2
      = zOf i x0 x1 x2 x3 xs0 x6 x7 x8 := by
  unfold out0_B_9
  rw [View.read_writes_eq_canon _ _ _ (fun _ => cover0_B_9 ..), pieces_B_9, canon_whole (S := S1x256x1536) zero3, zLoad_eq, wdRead_eq]

/-- What a middle point leaves: the running sums. -/
theorem sout0_B_2_eq (hc0 : ¬cond0_0 i) (hc1 : ¬cond0_1 i) :
    sout0_B_2 (F := Ideal) c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3 x4 x5 x6 x7 x8 xs0 xs2
      = sumOf i x0 x1 x2 x3 xs0 x6 x7 x8 xs2 := by
  unfold sout0_B_2
  rw [View.read_writes_eq_canon _ _ _ (fun _ => scover0_B_2 ..), pieces_B_s2, canon_whole (S := S8x1536) zero2, sumLoad_eq, wdRead_eq, sumRead_eq]

/-- What the last point leaves: the block of rows. -/
theorem out0_C_9_eq (hc0 : ¬cond0_0 i) (hc1 : cond0_1 i) :
    out0_C_9 (F := Ideal) c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3 x4 x5 x6 x7 x8 xs0 xs2
      = zOf i x0 x1 x2 x3 xs0 x6 x7 x8 := by
  unfold out0_C_9
  rw [View.read_writes_eq_canon _ _ _ (fun _ => cover0_C_9 ..), pieces_C_9, canon_whole (S := S1x256x1536) zero3, zLoad_eq, wdRead_eq]

/-- What the last point leaves: the running sums. -/
theorem sout0_C_2_eq (hc0 : ¬cond0_0 i) (hc1 : cond0_1 i) :
    sout0_C_2 (F := Ideal) c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3 x4 x5 x6 x7 x8 xs0 xs2
      = sumOf i x0 x1 x2 x3 xs0 x6 x7 x8 xs2 := by
  unfold sout0_C_2
  rw [View.read_writes_eq_canon _ _ _ (fun _ => scover0_C_2 ..), pieces_C_s2, canon_whole (S := S8x1536) zero2, sumLoad_eq, wdRead_eq, sumRead_eq]

/-- What the first point leaves: the weight. -/
theorem sout0_A_0_eq (hc0 : cond0_0 i) (hc1 : ¬cond0_1 i) :
    sout0_A_0 (F := Ideal) c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3 x4 x5 x6 x7 x8
      = wdOf x4 x5 := by
  unfold sout0_A_0
  rw [View.read_writes_eq_canon _ _ _ (fun _ => scover0_A_0 ..), pieces_A_s0, wd_canon]

/-- What the last point leaves: the pooled rows. -/
theorem out0_C_10_eq (hc0 : ¬cond0_0 i) (hc1 : cond0_1 i) :
    out0_C_10 (F := Ideal) c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3 x4 x5 x6 x7 x8 xs0 xs2
      = pooledOf x0 (sumOf i x0 x1 x2 x3 xs0 x6 x7 x8 xs2) := by
  unfold out0_C_10
  rw [View.read_writes_eq_canon _ _ _ (fun _ => cover0_C_10 ..), pieces_C_10, canon_whole (S := S2x1536) zero2,
    load_stores (S := S8x1536) _ _ zero2, canon_whole (S := S8x1536) zero2, sumLoad_eq, wdRead_eq, sumRead_eq, lenAt, lenAt, len_at arg2 harg2 x0 _ _ 0 rfl,
    len_at arg2 harg2 x0 _ _ 1 rfl, pooledOf]

/-- What the last point leaves: the quantised words. -/
theorem out0_C_11_eq (hc0 : ¬cond0_0 i) (hc1 : cond0_1 i) :
    out0_C_11 (F := Ideal) c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3 x4 x5 x6 x7 x8 xs0 xs2
      = codeOf x0 (sumOf i x0 x1 x2 x3 xs0 x6 x7 x8 xs2) := by
  unfold out0_C_11
  rw [View.read_writes_eq_canon _ _ _ (fun _ => cover0_C_11 ..), pieces_C_11, canon_whole (S := S2x1536) zero2,
    load_stores (S := S8x1536) _ _ zero2, canon_whole (S := S8x1536) zero2, sumLoad_eq, wdRead_eq, sumRead_eq, lenAt, lenAt, len_at arg2 harg2 x0 _ _ 0 rfl,
    len_at arg2 harg2 x0 _ _ 1 rfl, codeOf]

/-- What the last point leaves: the quantisation scales. -/
theorem out0_C_12_eq (hc0 : ¬cond0_0 i) (hc1 : cond0_1 i) :
    out0_C_12 (F := Ideal) c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3 x4 x5 x6 x7 x8 xs0 xs2
      = scaleOf x0 (sumOf i x0 x1 x2 x3 xs0 x6 x7 x8 xs2) := by
  unfold out0_C_12
  rw [View.read_writes_eq_canon _ _ _ (fun _ => cover0_C_12 ..), pieces_C_12, canon_whole (S := S2x1) zero2,
    load_stores (S := S8x1536) _ _ zero2, canon_whole (S := S8x1536) zero2, sumLoad_eq, wdRead_eq, sumRead_eq, lenAt, lenAt, len_at arg2 harg2 x0 _ _ 0 rfl,
    len_at arg2 harg2 x0 _ _ 1 rfl, scaleOf]

/-- What the last point leaves: the quantised words of the first 384 elements. -/
theorem out0_C_13_eq (hc0 : ¬cond0_0 i) (hc1 : cond0_1 i) :
    out0_C_13 (F := Ideal) c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3 x4 x5 x6 x7 x8 xs0 xs2
      = k0_pay4 (F := Ideal) (pooledOf x0 (sumOf i x0 x1 x2 x3 xs0 x6 x7 x8 xs2)) := by
  unfold out0_C_13
  rw [View.read_writes_eq_canon _ _ _ (fun _ => cover0_C_13 ..), pieces_C_13, canon_whole (S := S2x384) zero2,
    load_stores (S := S8x1536) _ _ zero2, canon_whole (S := S8x1536) zero2, sumLoad_eq, wdRead_eq, sumRead_eq, lenAt, lenAt, len_at arg2 harg2 x0 _ _ 0 rfl,
    len_at arg2 harg2 x0 _ _ 1 rfl, pooledOf]

/-- What the last point leaves: the quantisation scales of the first 384 elements. -/
theorem out0_C_14_eq (hc0 : ¬cond0_0 i) (hc1 : cond0_1 i) :
    out0_C_14 (F := Ideal) c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 hc0 hc1 x0 x1 x2 x3 x4 x5 x6 x7 x8 xs0 xs2
      = k0_pay3 (F := Ideal) (pooledOf x0 (sumOf i x0 x1 x2 x3 xs0 x6 x7 x8 xs2)) := by
  unfold out0_C_14
  rw [View.read_writes_eq_canon _ _ _ (fun _ => cover0_C_14 ..), pieces_C_14, canon_whole (S := S2x1) zero2,
    load_stores (S := S8x1536) _ _ zero2, canon_whole (S := S8x1536) zero2, sumLoad_eq, wdRead_eq, sumRead_eq, lenAt, lenAt, len_at arg2 harg2 x0 _ _ 0 rfl,
    len_at arg2 harg2 x0 _ _ 1 rfl, pooledOf]

end Cert.KernelIdeal.Hand

end
-- ==== Proof.Inputs.lean ====
/-
  What each grid point reads: its input blocks, element by element, as elements of the launched arguments.
-/
module

public import proofs.«01_k».proof.Proof.Values
public import proofs.«01_k».proof.Proof.Gen.KernelIdeal.Value
public import Idealize.ShloMosaic.Lib.Claim
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.ShloMosaic.Tactic

variable (m : (ℓ : Loc nD τ sig) → Buf (Elt Ideal) ℓ) (c : Dev nD)

/-- The residual input as launched. -/
abbrev aX : Vec Ideal S2x1024x1536 .bf16 := m ((c : Thread nD τ).loc main_arg0)
/-- The activations as launched. -/
abbrev aH : Vec Ideal S2x1024x8960 .fp8e4m3 := m ((c : Thread nD τ).loc main_arg1)
/-- The activations' scales as launched. -/
abbrev aHs : Vec Ideal S2x1024x70 .f32 := m ((c : Thread nD τ).loc main_arg2)
/-- The weight as launched. -/
abbrev aW : Vec Ideal S8960x1536 .fp8e4m3 := m ((c : Thread nD τ).loc main_arg3)
/-- The weight's scales as launched. -/
abbrev aWs : Vec Ideal S70x12 .f32 := m ((c : Thread nD τ).loc main_arg4)
/-- The bias as launched. -/
abbrev aBias : Vec Ideal S1536 .f32 := m ((c : Thread nD τ).loc main_arg5)
/-- The layer norm's weight as launched. -/
abbrev aG : Vec Ideal S1536 .f32 := m ((c : Thread nD τ).loc main_arg6)
/-- The layer norm's bias as launched. -/
abbrev aB : Vec Ideal S1536 .f32 := m ((c : Thread nD τ).loc main_arg7)
/-- The lengths as launched. -/
abbrev aLen : Vec Ideal S2 .i32 := m ((c : Thread nD τ).loc main_arg8)

/-- The sequence a point works on. -/
abbrev seqOf (t : Fin cfg0.N) : Fin 2 := ⟨t.val / 4, by have h : t.val < 8 := lt_of_lt_of_eq t.isLt N_0; omega⟩

/-- The row of the sequence that row `r` of a point's tile is. -/
abbrev rowOf (t : Fin cfg0.N) (r : Fin 256) : Fin 1024 := ⟨256 * (t.val % 4) + r.val, by have h := r.isLt; omega⟩

/-- The grid coordinates of a point. -/
theorem coords_at (t : Fin cfg0.N) : ((grid0.coords t) 0).val = t.val / 4 ∧ ((grid0.coords t) 1).val = t.val % 4 := by
  rcases fin_N0 t with rfl | rfl | rfl | rfl | rfl | rfl | rfl | rfl <;> decide

/-- The block indices of the input windows. -/
theorem idx_at (t : Fin cfg0.N) : win0_0.index t = ![0] ∧ win0_1.index t = ![t.val / 4, t.val % 4, 0]
    ∧ win0_2.index t = ![t.val / 4, t.val % 4, 0] ∧ win0_3.index t = ![t.val / 4, t.val % 4, 0]
    ∧ win0_4.index t = ![0, 0] ∧ win0_5.index t = ![0, 0] ∧ win0_6.index t = ![0, 0] ∧ win0_7.index t = ![0, 0]
    ∧ win0_8.index t = ![0, 0] := by
  rcases fin_N0 t with rfl | rfl | rfl | rfl | rfl | rfl | rfl | rfl <;> decide

/-- Window 0's block: the lengths. -/
theorem blk0_at (t : Fin cfg0.N) (b : Fin 2) : (iblk m c 0 t : Vec Ideal S2 .i32) (ix1 b) = aLen m c (ix1 b) := by
  have h := idx_at t
  blk_ext [iblk, V, h]

/-- Window 1's block: a tile of the residual input. -/
theorem blk1_at (t : Fin cfg0.N) (r : Fin 256) (n : Fin 1536) :
    (iblk m c 1 t : Vec Ideal S1x256x1536 .bf16) (ix3 0 r n) = aX m c (ix3 (seqOf t) (rowOf t r) n) := by
  have h := idx_at t
  blk_ext [iblk, V, h]

/-- Window 2's block: a tile of the activations. -/
theorem blk2_at (t : Fin cfg0.N) (r : Fin 256) (k : Fin 8960) :
    (iblk m c 2 t : Vec Ideal S1x256x8960 .fp8e4m3) (ix3 0 r k) = aH m c (ix3 (seqOf t) (rowOf t r) k) := by
  have h := idx_at t
  blk_ext [iblk, V, h]

/-- Window 3's block: the tile's scales. -/
theorem blk3_at (t : Fin cfg0.N) (r : Fin 256) (k : Fin 70) :
    (iblk m c 3 t : Vec Ideal S1x256x70 .f32) (ix3 0 r k) = aHs m c (ix3 (seqOf t) (rowOf t r) k) := by
  have h := idx_at t
  blk_ext [iblk, V, h]

/-- Window 4's block: the whole weight. -/
theorem blk4_at (t : Fin cfg0.N) (k : Fin 8960) (n : Fin 1536) :
    (iblk m c 4 t : Vec Ideal S8960x1536 .fp8e4m3) (ix2 k n) = aW m c (ix2 k n) := by
  have h := idx_at t
  blk_ext [iblk, V, h]

/-- Window 5's block: all of the weight's scales. -/
theorem blk5_at (t : Fin cfg0.N) (k : Fin 70) (n : Fin 12) :
    (iblk m c 5 t : Vec Ideal S70x12 .f32) (ix2 k n) = aWs m c (ix2 k n) := by
  have h := idx_at t
  blk_ext [iblk, V, h]

/-- Window 6's block: the bias. -/
theorem blk6_at (t : Fin cfg0.N) (n : Fin 1536) : (iblk m c 6 t : Vec Ideal S1x1536 .f32) (ix2 0 n) = aBias m c (ix1 n) := by
  have h := idx_at t
  refine (show _ = (V m c main_v0 : Vec Ideal S1x1536 .f32) (ix2 0 n) by blk_ext [iblk, h]).trans ?_
  entry_read
  pointwise

/-- Window 7's block: the layer norm's weight. -/
theorem blk7_at (t : Fin cfg0.N) (n : Fin 1536) : (iblk m c 7 t : Vec Ideal S1x1536 .f32) (ix2 0 n) = aG m c (ix1 n) := by
  have h := idx_at t
  refine (show _ = (V m c main_v1 : Vec Ideal S1x1536 .f32) (ix2 0 n) by blk_ext [iblk, h]).trans ?_
  entry_read
  pointwise

/-- Window 8's block: the layer norm's bias. -/
theorem blk8_at (t : Fin cfg0.N) (n : Fin 1536) : (iblk m c 8 t : Vec Ideal S1x1536 .f32) (ix2 0 n) = aB m c (ix1 n) := by
  have h := idx_at t
  refine (show _ = (V m c main_v2 : Vec Ideal S1x1536 .f32) (ix2 0 n) by blk_ext [iblk, h]).trans ?_
  entry_read
  pointwise

end Cert.KernelIdeal.Hand

end
-- ==== Proof.Points.lean ====
/-
  What each grid point leaves, in terms of the launched arguments: the normalised rows it stores, the weight it carries and the running
  sums over the rows of each sequence.
-/
module

public import proofs.«01_k».proof.Proof.Inputs

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Cert.KernelIdeal.Value

variable (m : (ℓ : Loc nD τ sig) → Buf (Elt Ideal) ℓ) (c : Dev nD)

/-- Row `(b, l)` before the layer norm. -/
abbrev preAt (b : Fin 2) (l : Fin 1024) : Fin 1536 → EReal :=
  Spec.pre (fun n => aX m c (ix3 b l n)) (Spec.hd (fun k => aH m c (ix3 b l k)) (fun k => aHs m c (ix3 b l k)))
    (Spec.wd (fun k n => aW m c (ix2 k n)) (fun k n => aWs m c (ix2 k n))) (fun n => aBias m c (ix1 n))

/-- The masked, normalised row `(b, l)`. -/
abbrev zAt (b : Fin 2) (l : Fin 1024) (n : Fin 1536) : EReal :=
  Spec.masked l (aLen m c (ix1 b)) (Spec.norm (preAt m c b l) (fun n => aG m c (ix1 n)) (fun n => aB m c (ix1 n)) n)

/-- The weight after its block scales. -/
abbrev wdAll : Vec Ideal S8960x1536 .bf16 := wdOf (aW m c) (aWs m c)

/-- The first point's blocks give the whole weight. -/
theorem wdOf_blk (t : Fin cfg0.N) : wdOf (iblk m c 4 t) (iblk m c 5 t) = wdAll m c := by
  unfold wdAll wdOf
  simp only [blk4_at, blk5_at]

/-- The row a point normalises is the sequence's row. -/
theorem tileRow_blk (t : Fin cfg0.N) (r : Fin 256) :
    tileRow (hdOf (iblk m c 2 t) (iblk m c 3 t)) (wdAll m c) (iblk m c 1 t) (iblk m c 6 t) r = preAt m c (seqOf t) (rowOf t r) := by
  unfold tileRow hdOf wdAll wdOf
  simp only [blk1_at, blk6_at]
  show Spec.pre _ (Spec.hd (fun k => (iblk m c 2 t : Vec Ideal S1x256x8960 .fp8e4m3) (ix3 0 r k))
    (fun k => (iblk m c 3 t : Vec Ideal S1x256x70 .f32) (ix3 0 r k))) _ _ = _
  simp only [blk2_at, blk3_at]
  rfl

/-- The number of a row in its sequence, as the point computes it. -/
theorem rowWord (t : Fin cfg0.N) (r : Fin 256) :
    BitVec.ofNat 32 ((grid0.coords t) 1).val * 256#32 + BitVec.ofNat 32 r = BitVec.ofNat 32 (rowOf t r).val := by
  rw [(coords_at t).2, ← BitVec.ofNat_mul, ← BitVec.ofNat_add, Nat.mul_comm]

/-- The length a point's mask compares with. -/
theorem len_blk (t : Fin cfg0.N) :
    (iblk m c 0 t : Vec Ideal S2 .i32) (ix1 ((grid0.coords t) 0)) = aLen m c (ix1 (seqOf t)) := by
  rw [show (grid0.coords t) 0 = seqOf t from Fin.ext (coords_at t).1]
  exact blk0_at m c t _

/-- The rows a point masks and normalises are the sequence's. -/
theorem masked_blk (t : Fin cfg0.N) (r : Fin 256) (n : Fin 1536) :
    Scalar.select (IntOp.cmpi .slt (BitVec.ofNat 32 ((grid0.coords t) 1).val * 256#32 + BitVec.ofNat 32 r)
        ((iblk m c 0 t : Vec Ideal S2 .i32) (ix1 ((grid0.coords t) 0))))
      (Spec.norm (tileRow (hdOf (iblk m c 2 t) (iblk m c 3 t)) (wdAll m c) (iblk m c 1 t) (iblk m c 6 t) r)
        (fun n => (iblk m c 7 t : Vec Ideal S1x1536 .f32) (ix2 0 n)) (fun n => (iblk m c 8 t : Vec Ideal S1x1536 .f32) (ix2 0 n)) n) 0
      = zAt m c (seqOf t) (rowOf t r) n := by
  rw [rowWord, len_blk, tileRow_blk]
  simp only [blk7_at, blk8_at]
  rfl

/-- The block of rows a point stores. -/
theorem zOf_at (t : Fin cfg0.N) (r : Fin 256) (n : Fin 1536) :
    zOf (grid0.coords t) (iblk m c 0 t) (iblk m c 1 t) (iblk m c 2 t) (iblk m c 3 t) (wdAll m c) (iblk m c 6 t) (iblk m c 7 t)
      (iblk m c 8 t) (ix3 0 r n) = zAt m c (seqOf t) (rowOf t r) n :=
  (pay1113_at ..).trans (masked_blk m c t r n)

/-- Two sequence numbers compared as words. -/
theorem seqWord : ∀ q b : Fin 2,
    IntOp.cmpi .eq (BitVec.ofNat 32 b.val) (BitVec.ofNat 32 q.val) = if q.val = b.val then 1#1 else 0#1 := by decide

/-- Whether a row of the running sums is the one a point adds to. -/
theorem seqMask (t : Fin cfg0.N) (b : Fin 2) (x y : EReal) :
    Scalar.select (IntOp.cmpi .eq (BitVec.ofNat 32 b.val) (BitVec.ofNat 32 ((grid0.coords t) 0).val)) x y
      = if t.val / 4 = b.val then x else y := by
  rw [(coords_at t).1, seqWord (seqOf t) b]
  by_cases h : t.val / 4 = b.val
  · rw [if_pos h, if_pos h]
    rfl
  · rw [if_neg h, if_neg h]
    rfl

/-- The running sums a point leaves. -/
theorem sumOf_at (t : Fin cfg0.N) (S : Vec Ideal S8x1536 .f32) (b : Fin 2) (n : Fin 1536) :
    sumOf (grid0.coords t) (iblk m c 0 t) (iblk m c 1 t) (iblk m c 2 t) (iblk m c 3 t) (wdAll m c) (iblk m c 6 t) (iblk m c 7 t)
        (iblk m c 8 t) S (ix2 ⟨b, by omega⟩ n)
      = S (ix2 ⟨b, by omega⟩ n) + if t.val / 4 = b.val then ∑ r : Fin 256, zAt m c (seqOf t) (rowOf t r) n else 0 := by
  unfold sumOf
  rw [pay1_at, pay1114_at, pay1115_at, seqMask]
  refine congrArg (fun e : EReal => S (ix2 ⟨b, by omega⟩ n) + e) ?_
  have h : ∀ r : Fin 256, _ = zAt m c (seqOf t) (rowOf t r) n := fun r => (pay1112_at ..).trans (masked_blk m c t r n)
  exact if_congr Iff.rfl (Finset.sum_congr rfl fun r _ => h r) Ideal.ofBits_zero_f32

end Cert.KernelIdeal.Hand

end
-- ==== Proof.Finish.lean ====
/-
  The fold over the grid points, and the kernel's six results in terms of the launched arguments.
-/
module

public import proofs.«01_k».proof.Proof.Points

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Cert.KernelIdeal.Value

variable (m : (ℓ : Loc nD τ sig) → Buf (Elt Ideal) ℓ) (c : Dev nD)

/-- What a point leaves in the outputs and in the carried scratch. -/
abbrev Acc : Type := Vec Ideal S1x256x1536 .f32 × Vec Ideal S2x1536 .f32 × Vec Ideal S2x1536 .i8 × Vec Ideal S2x1 .f32
  × Vec Ideal S2x384 .i8 × Vec Ideal S2x1 .f32 × Vec Ideal S8960x1536 .bf16 × Vec Ideal S8x1536 .f32

/-- The rows stored at a point. -/
abbrev zBlk (t : Fin cfg0.N) : Vec Ideal S1x256x1536 .f32 :=
  zOf (grid0.coords t) (iblk m c 0 t) (iblk m c 1 t) (iblk m c 2 t) (iblk m c 3 t) (wdAll m c) (iblk m c 6 t) (iblk m c 7 t) (iblk m c 8 t)

/-- The running sums left at a point. -/
abbrev sumBlk (t : Fin cfg0.N) (S : Vec Ideal S8x1536 .f32) : Vec Ideal S8x1536 .f32 :=
  sumOf (grid0.coords t) (iblk m c 0 t) (iblk m c 1 t) (iblk m c 2 t) (iblk m c 3 t) (wdAll m c) (iblk m c 6 t) (iblk m c 7 t) (iblk m c 8 t) S

/-- The first point dequantises the weight and starts the running sums from zero. -/
theorem step_first (t : Fin cfg0.N) (h : t.val = 0) (acc : Acc) :
    (stAt0 m c t.val t.isLt acc).1 = zBlk m c t ∧ (stAt0 m c t.val t.isLt acc).2.2.2.2.2.2.1 = wdAll m c
      ∧ (stAt0 m c t.val t.isLt acc).2.2.2.2.2.2.2 = sumBlk m c t (k0_pay1017 (F := Ideal)) := by
  rw [stAt0_A m c t acc (by omega) (by omega)]
  dsimp only
  rw [out0_A_9_eq, sout0_A_0_eq, sout0_A_2_eq, wdOf_blk m c t]
  exact ⟨rfl, rfl, rfl⟩

/-- Every later point keeps the weight and adds to the running sums. -/
theorem step_next (t : Fin cfg0.N) (h : t.val ≠ 0) (acc : Acc) (hw : acc.2.2.2.2.2.2.1 = wdAll m c) :
    (stAt0 m c t.val t.isLt acc).1 = zBlk m c t ∧ (stAt0 m c t.val t.isLt acc).2.2.2.2.2.2.1 = wdAll m c
      ∧ (stAt0 m c t.val t.isLt acc).2.2.2.2.2.2.2 = sumBlk m c t acc.2.2.2.2.2.2.2 := by
  have hN : t.val < 8 := lt_of_lt_of_eq t.isLt N_0
  by_cases h7 : t.val % 8 = 7
  · rw [stAt0_C m c t acc (by omega) h7]
    dsimp only
    rw [out0_C_9_eq, sout0_C_2_eq, hw]
    exact ⟨rfl, rfl, rfl⟩
  · rw [stAt0_B m c t acc (by omega) h7]
    dsimp only
    rw [out0_B_9_eq, sout0_B_2_eq, hw]
    exact ⟨rfl, rfl, rfl⟩

/-- The last point's five other results, from the running sums it leaves. -/
theorem step_last (t : Fin cfg0.N) (h : t.val = 7) (acc : Acc) (hw : acc.2.2.2.2.2.2.1 = wdAll m c) :
    (stAt0 m c t.val t.isLt acc).2.1 = pooledOf (iblk m c 0 t) (sumBlk m c t acc.2.2.2.2.2.2.2)
      ∧ (stAt0 m c t.val t.isLt acc).2.2.1 = codeOf (iblk m c 0 t) (sumBlk m c t acc.2.2.2.2.2.2.2)
      ∧ (stAt0 m c t.val t.isLt acc).2.2.2.1 = scaleOf (iblk m c 0 t) (sumBlk m c t acc.2.2.2.2.2.2.2)
      ∧ (stAt0 m c t.val t.isLt acc).2.2.2.2.1 = k0_pay4 (F := Ideal) (pooledOf (iblk m c 0 t) (sumBlk m c t acc.2.2.2.2.2.2.2))
      ∧ (stAt0 m c t.val t.isLt acc).2.2.2.2.2.1 = k0_pay3 (F := Ideal) (pooledOf (iblk m c 0 t) (sumBlk m c t acc.2.2.2.2.2.2.2)) := by
  rw [stAt0_C m c t acc (by omega) (by omega)]
  dsimp only
  rw [out0_C_10_eq, out0_C_11_eq, out0_C_12_eq, out0_C_13_eq, out0_C_14_eq, hw]
  exact ⟨rfl, rfl, rfl, rfl, rfl⟩

/-- The fold up to a point. -/
abbrev st (n : ℕ) (h : 0 + n < cfg0.N) : Acc := Pipeline.accAt (fun n h => stAt0 m c n h junk0) (stAt0 m c) 0 n h

/-- After every point the carried weight is the dequantised weight, and the block of rows is the point's. -/
theorem st_inv (n : ℕ) (h : 0 + n < cfg0.N) :
    (st m c n h).1 = zBlk m c ⟨0 + n, h⟩ ∧ (st m c n h).2.2.2.2.2.2.1 = wdAll m c := by
  induction n with
  | zero =>
    have e := step_first m c ⟨0 + 0, h⟩ rfl junk0
    exact ⟨e.1, e.2.1⟩
  | succ n ih =>
    have e := step_next m c ⟨0 + (n + 1), h⟩ (by show 0 + (n + 1) ≠ 0; omega) (st m c n (Nat.lt_of_succ_lt h)) (ih _).2
    exact ⟨e.1, e.2.1⟩

/-- The masked, normalised row numbered `l`, or zero past the last. -/
def zNat (b : Fin 2) (n : Fin 1536) (l : ℕ) : EReal := if h : l < 1024 then zAt m c b ⟨l, h⟩ n else 0

/-- What a point adds to the running sums of sequence `b`. -/
def tileSum (b : Fin 2) (n : Fin 1536) (j : ℕ) : EReal :=
  if j / 4 = b.val then ∑ r : Fin 256, zNat m c b n (j % 4 * 256 + r.val) else 0

/-- The running sums a point leaves, from those it found. -/
theorem sumBlk_at (t : Fin cfg0.N) (S : Vec Ideal S8x1536 .f32) (b : Fin 2) (n : Fin 1536) :
    sumBlk m c t S (ix2 ⟨b, by omega⟩ n) = S (ix2 ⟨b, by omega⟩ n) + tileSum m c b n t.val := by
  refine (sumOf_at m c t S b n).trans (congrArg (fun e : EReal => S (ix2 ⟨b, by omega⟩ n) + e) ?_)
  unfold tileSum
  by_cases h : t.val / 4 = b.val
  · rw [if_pos h, if_pos h]
    obtain rfl : seqOf t = b := Fin.ext h
    refine Finset.sum_congr rfl fun r _ => ?_
    have hr : t.val % 4 * 256 + r.val < 1024 := by have := r.isLt; omega
    unfold zNat
    rw [dif_pos hr]
    exact congrArg (fun l => zAt m c (seqOf t) l n) (Fin.ext (show 256 * (t.val % 4) + r.val = _ by rw [Nat.mul_comm]))
  · rw [if_neg h, if_neg h]

/-- After every point the running sums add up the points so far. -/
theorem st_sum (n : ℕ) (h : 0 + n < cfg0.N) (b : Fin 2) (k : Fin 1536) :
    (st m c n h).2.2.2.2.2.2.2 (ix2 ⟨b, by omega⟩ k) = ∑ j ∈ Finset.range (n + 1), tileSum m c b k j := by
  induction n with
  | zero =>
    refine (congrFun (step_first m c ⟨0 + 0, h⟩ rfl junk0).2.2 _).trans ((sumBlk_at ..).trans ?_)
    rw [pay1017_at, Finset.sum_range_one]
    exact zero_add _
  | succ n ih =>
    refine (congrFun (step_next m c ⟨0 + (n + 1), h⟩ (by show 0 + (n + 1) ≠ 0; omega) (st m c n (Nat.lt_of_succ_lt h))
      (st_inv m c n _).2).2.2 _).trans ((sumBlk_at ..).trans ?_)
    rw [ih, Finset.sum_range_succ _ (n + 1)]
    exact congrArg (fun j => _ + tileSum m c b k j) (Nat.zero_add _)

/-- The tiles of a sequence together are its rows. -/
theorem sum_tiles (b : Fin 2) (n : Fin 1536) :
    ∑ j ∈ Finset.range 8, tileSum m c b n j = ∑ l : Fin 1024, zAt m c b l n := by
  have e : ∑ l : Fin 1024, zAt m c b l n = ∑ l : Fin (4 * 256), zNat m c b n l.val :=
    Finset.sum_congr rfl fun l _ => (show zNat m c b n l.val = _ from dif_pos l.isLt).symm
  rw [e, ← Fin.sum_univ_univ_mul_add 4 256 (zNat m c b n), Fin.sum_univ_four]
  unfold tileSum
  simp only [Finset.sum_range_succ, Finset.sum_range_zero]
  fin_cases b <;> simp

/-- The mean over the rows of sequence `b`. -/
abbrev mAt (b : Fin 2) (n : Fin 1536) : EReal := Spec.pooled (∑ l : Fin 1024, zAt m c b l n) (aLen m c (ix1 b))

/-- The length the pooling of a sequence divides by. -/
theorem poolLen (x0 : Vec Ideal S2 .i32) (b : Fin 2) :
    Scalar.select (IntOp.cmpi .eq (iota .tc S8x1 32 [0] iota_S8x1_d0_w32 (ix2 ⟨b, by omega⟩ 0)) 0#32) (x0 (ix1 0)) (x0 (ix1 1))
      = x0 (ix1 b) := by
  fin_cases b <;> rfl

/-- The running sums after point `n + 1`, as that point's results read them. -/
abbrev sumEnd (n : ℕ) (h : 0 + (n + 1) < cfg0.N) : Vec Ideal S8x1536 .f32 :=
  sumBlk m c ⟨0 + (n + 1), h⟩ (st m c n (Nat.lt_of_succ_lt h)).2.2.2.2.2.2.2

/-- After the last point they are the sums over all rows. -/
theorem sum_last (p : ℕ) (hp : p = 6) (h : 0 + (p + 1) < cfg0.N) (b : Fin 2) (n : Fin 1536) :
    sumEnd m c p h (ix2 ⟨b, by omega⟩ n) = ∑ l : Fin 1024, zAt m c b l n := by
  refine (congrFun (step_next m c ⟨0 + (p + 1), h⟩ (by show 0 + (p + 1) ≠ 0; omega) _
    (st_inv m c p (Nat.lt_of_succ_lt h)).2).2.2 _).symm.trans ((st_sum m c (p + 1) h b n).trans ?_)
  rw [hp]
  exact sum_tiles m c b n

/-- The pooled rows after the last point. -/
theorem pooled_last (p : ℕ) (hp : p = 6) (h : 0 + (p + 1) < cfg0.N) (b : Fin 2) (n : Fin 1536) :
    pooledOf (iblk m c 0 ⟨0 + (p + 1), h⟩) (sumEnd m c p h) (ix2 b n) = mAt m c b n := by
  unfold pooledOf
  refine (pay1013_at ..).trans ?_
  rw [poolLen, blk0_at]
  exact congrArg (fun s => Spec.pooled s (aLen m c (ix1 b))) (sum_last m c p hp h b n)

/-- All of the last point's results. -/
theorem last_eq (p : ℕ) (hp : p = 6) (h : 0 + (p + 1) < cfg0.N) :
    (st m c (p + 1) h).2.1 = pooledOf (iblk m c 0 ⟨0 + (p + 1), h⟩) (sumEnd m c p h)
      ∧ (st m c (p + 1) h).2.2.1 = codeOf (iblk m c 0 ⟨0 + (p + 1), h⟩) (sumEnd m c p h)
      ∧ (st m c (p + 1) h).2.2.2.1 = scaleOf (iblk m c 0 ⟨0 + (p + 1), h⟩) (sumEnd m c p h)
      ∧ (st m c (p + 1) h).2.2.2.2.1 = k0_pay4 (F := Ideal) (pooledOf (iblk m c 0 ⟨0 + (p + 1), h⟩) (sumEnd m c p h))
      ∧ (st m c (p + 1) h).2.2.2.2.2.1 = k0_pay3 (F := Ideal) (pooledOf (iblk m c 0 ⟨0 + (p + 1), h⟩) (sumEnd m c p h)) :=
  step_last m c ⟨0 + (p + 1), h⟩ (by show 0 + (p + 1) = 7; omega) (st m c p (Nat.lt_of_succ_lt h)) (st_inv m c p (Nat.lt_of_succ_lt h)).2

/-- Result 1 of the kernel. -/
theorem G9_at (b : Fin 2) (l : Fin 1024) (n : Fin 1536) :
    (G9 m c : Vec Ideal S2x1024x1536 .f32) (ix3 b l n) = zAt m c b l n := by
  have hb := b.isLt
  have hl := l.isLt
  have hn := n.isLt
  have hp : pt9Of (ix3 b l n) = 0 + (4 * b.val + l.val / 256) := by
    show 4 * (b.val / 1 - 0) + 1 * (l.val / 256 - 0) + 1 * (n.val / 1536 - 0) = _
    omega
  have hq : 0 + (4 * b.val + l.val / 256) < cfg0.N := lt_of_lt_of_eq (by omega) N_0.symm
  have hloc : loc9Of (ix3 b l n) = ix3 (0 : Fin 1) (⟨l.val % 256, by omega⟩ : Fin 256) n := by
    funext a
    fin_cases a
    · exact Fin.ext (show b.val % 1 = 0 by omega)
    · rfl
    · exact Fin.ext (show n.val % 1536 = n.val by omega)
  unfold G9
  rw [dif_pos (lt_of_eq_of_lt hp hq), hloc]
  refine (congrArg (fun a : Acc => a.1 (ix3 0 ⟨l.val % 256, by omega⟩ n)) (fold0_congr m c _ _ _ (by simpa using hq)
    (hp.trans (Nat.zero_add _)))).trans ((congrFun (st_inv m c _ hq).1 _).trans ((zOf_at m c _ _ n).trans ?_))
  congr 1
  · exact Fin.ext (show (0 + (4 * b.val + l.val / 256)) / 4 = b.val by omega)
  · exact Fin.ext (show 256 * ((0 + (4 * b.val + l.val / 256)) % 4) + l.val % 256 = l.val by omega)

/-- Result 2 of the kernel. -/
theorem G10_at (b : Fin 2) (n : Fin 1536) : (G10 m c : Vec Ideal S2x1536 .f32) (ix2 b n) = mAt m c b n := by
  rw [G10_last]
  exact (congrFun (last_eq m c 6 rfl _).1 _).trans (pooled_last m c 6 rfl _ b n)

/-- Result 3 of the kernel. -/
theorem G11_at (b : Fin 2) (n : Fin 1536) :
    (G11 m c : Vec Ideal S2x1536 .i8) (ix2 b n) = Spec.code (Spec.unit (mAt m c b)) n := by
  rw [G11_last]
  refine (congrFun (last_eq m c 6 rfl _).2.1 _).trans ((pay1016_at ..).trans ?_)
  exact congrArg (fun u => Spec.code (Spec.unit u) n) (funext fun n => pooled_last m c 6 rfl _ b n)

/-- Result 4 of the kernel. -/
theorem G12_at (b : Fin 2) : (G12 m c : Vec Ideal S2x1 .f32) (ix2 b 0) = Spec.scale (Spec.unit (mAt m c b)) := by
  rw [G12_last]
  refine (congrFun (last_eq m c 6 rfl _).2.2.1 _).trans ((pay1015_at ..).trans ?_)
  exact congrArg (fun u => Spec.scale (Spec.unit u)) (funext fun n => pooled_last m c 6 rfl _ b n)

/-- Result 5 of the kernel. -/
theorem G13_at (b : Fin 2) (n : Fin 384) :
    (G13 m c : Vec Ideal S2x384 .i8) (ix2 b n) = Spec.code (Spec.unit (Spec.head (mAt m c b))) n := by
  rw [G13_last]
  refine (congrFun (last_eq m c 6 rfl _).2.2.2.1 _).trans ((pay4_at ..).trans ?_)
  exact congrArg (fun u => Spec.code (Spec.unit (Spec.head u)) n) (funext fun n => pooled_last m c 6 rfl _ b n)

/-- Result 6 of the kernel. -/
theorem G14_at (b : Fin 2) : (G14 m c : Vec Ideal S2x1 .f32) (ix2 b 0) = Spec.scale (Spec.unit (Spec.head (mAt m c b))) := by
  rw [G14_last]
  refine (congrFun (last_eq m c 6 rfl _).2.2.2.2 _).trans ((pay3_at ..).trans ?_)
  exact congrArg (fun u => Spec.scale (Spec.unit (Spec.head u))) (funext fun n => pooled_last m c 6 rfl _ b n)

end Cert.KernelIdeal.Hand

end
-- ==== Proof.Equal.lean ====
/-
  The kernel's six results are the reference's six results, over the extended reals.
-/
module

public import proofs.«01_k».proof.Defs
public import proofs.«01_k».proof.Proof.Ref
public import proofs.«01_k».proof.Proof.Finish

@[expose] public section

set_option maxRecDepth 16384

noncomputable section

namespace Cert.Proof

open Idealize.ShloMosaic Idealize.ShloMosaic.TcCoe Idealize.SL.Sem
open Cert.KernelIdeal Cert.KernelIdeal.Gen Cert.KernelIdeal.Hand

variable (m : (ℓ : Loc nD τ sig) → Buf (Elt Ideal) ℓ) (c : Dev nD)

/-- Result 1. -/
theorem eq9 : Cert.ReferenceIdeal.Value.G9 (aX m c) (aH m c) (aHs m c) (aW m c) (aWs m c) (aBias m c) (aG m c) (aB m c) (aLen m c)
    = Cert.KernelIdeal.Value.G9 m c := by
  funext i
  rw [eq_ix3 (n0 := 2) (n1 := 1024) (n2 := 1536) i]
  exact (Cert.ReferenceIdeal.Hand.G9_at ..).trans (Cert.KernelIdeal.Hand.G9_at m c _ _ _).symm

/-- Result 2. -/
theorem eq10 : Cert.ReferenceIdeal.Value.G10 (aX m c) (aH m c) (aHs m c) (aW m c) (aWs m c) (aBias m c) (aG m c) (aB m c) (aLen m c)
    = Cert.KernelIdeal.Value.G10 m c := by
  funext i
  rw [eq_ix2 (n0 := 2) (n1 := 1536) i]
  exact (Cert.ReferenceIdeal.Hand.G10_at ..).trans (Cert.KernelIdeal.Hand.G10_at m c _ _).symm

/-- Result 3. -/
theorem eq11 : Cert.ReferenceIdeal.Value.G11 (aX m c) (aH m c) (aHs m c) (aW m c) (aWs m c) (aBias m c) (aG m c) (aB m c) (aLen m c)
    = Cert.KernelIdeal.Value.G11 m c := by
  funext i
  rw [eq_ix2 (n0 := 2) (n1 := 1536) i]
  exact (Cert.ReferenceIdeal.Hand.G11_at ..).trans (Cert.KernelIdeal.Hand.G11_at m c _ _).symm

/-- Result 4. -/
theorem eq12 : Cert.ReferenceIdeal.Value.G12 (aX m c) (aH m c) (aHs m c) (aW m c) (aWs m c) (aBias m c) (aG m c) (aB m c) (aLen m c)
    = Cert.KernelIdeal.Value.G12 m c := by
  funext i
  rw [eq_ix2 (n0 := 2) (n1 := 1) i, Subsingleton.elim (α := Fin 1) (i 1) 0]
  exact (Cert.ReferenceIdeal.Hand.G12_at ..).trans (Cert.KernelIdeal.Hand.G12_at m c _).symm

/-- Result 5. -/
theorem eq13 : Cert.ReferenceIdeal.Value.G13 (aX m c) (aH m c) (aHs m c) (aW m c) (aWs m c) (aBias m c) (aG m c) (aB m c) (aLen m c)
    = Cert.KernelIdeal.Value.G13 m c := by
  funext i
  rw [eq_ix2 (n0 := 2) (n1 := 384) i]
  exact (Cert.ReferenceIdeal.Hand.G13_at ..).trans (Cert.KernelIdeal.Hand.G13_at m c _ _).symm

/-- Result 6. -/
theorem eq14 : Cert.ReferenceIdeal.Value.G14 (aX m c) (aH m c) (aHs m c) (aW m c) (aWs m c) (aBias m c) (aG m c) (aB m c) (aLen m c)
    = Cert.KernelIdeal.Value.G14 m c := by
  funext i
  rw [eq_ix2 (n0 := 2) (n1 := 1) i, Subsingleton.elim (α := Fin 1) (i 1) 0]
  exact (Cert.ReferenceIdeal.Hand.G14_at ..).trans (Cert.KernelIdeal.Hand.G14_at m c _).symm

/-- From memories agreeing on the arguments, the kernel and the reference end with equal results. -/
theorem algebraic : Cert.algebraic_KernelIdeal_ReferenceIdeal (hKernelIdeal := Cert.KernelIdeal.Gen.facts)
    (hReferenceIdeal := Cert.ReferenceIdeal.Gen.facts) := by
  intro m g m' g' _ hag
  refine ⟨fun c => Cert.KernelIdeal.Value.G9 m c, fun c => Cert.KernelIdeal.Value.G10 m c, fun c => Cert.KernelIdeal.Value.G11 m c,
    fun c => Cert.KernelIdeal.Value.G12 m c, fun c => Cert.KernelIdeal.Value.G13 m c, fun c => Cert.KernelIdeal.Value.G14 m c,
    Cert.KernelIdeal.Value.run m g, ?_⟩
  refine (θ_run (Cert.ReferenceIdeal.defs (F := Ideal)) _ _).mono (fun r h c => ?_) (Cert.ReferenceIdeal.Value.run m' g')
  obtain ⟨h0, h1, h2, h3, h4, h5, hrest⟩ := h c
  obtain ⟨e0, e1, e2, e3, e4, e5, e6, e7, e8⟩ := hag c
  rw [e0, e1, e2, e3, e4, e5, e6, e7, e8] at h0 h1 h2 h3 h4 h5
  exact ⟨h0.trans (eq9 m c), h1.trans (eq10 m c), h2.trans (eq11 m c), h3.trans (eq12 m c), h4.trans (eq13 m c), h5.trans (eq14 m c), hrest⟩

end Cert.Proof

end
-- ==== Proof.lean ====
module

public import proofs.«01_k».proof.Defs
public import proofs.«01_k».proof.Proof.Gen.ReferenceIdeal.Value
public import proofs.«01_k».proof.Proof.Gen.KernelIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The frames are the generated ones; the idealization rewrote no operation; the kernel's results are the reference's. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
